-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 8192, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 256, 512]⟩ ⟨3, ![2, 8192, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S2x256x512 1 × IVec S512x256 1 × IVec S2x256x4x64 1 :=
  let main_v0 : FVec F S2x256x512 .f32 := (extf .f32 · bitsLt_bf16_f32) main_arg0
  let main_v1 : FVec F S512x256 .f32 := (extf .f32 · bitsLt_bf16_f32) main_arg1
  let main_v2 : FVec F S2x256x4x64 .f32 := (extf .f32 · bitsLt_bf16_f32) main_arg2
  let main_v3 : FVec F S2x256x512 .f32 := Host.absf main_v0
  let main_cst : FVec F S_ .f32 := constant S_ .f32 0x7F800000#32
  let main_v4 : FVec F S2x256x512 .f32 := broadcastInDim S2x256x512 ![] bcast_S_S2x256x512 main_cst
  let main_v5 : IVec S2x256x512 1 := cmpf .olt main_v3 main_v4
  let main_v6 : FVec F S512x256 .f32 := Host.absf main_v1
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_v9 : FVec F S2x256x4x64 .f32 := Host.absf main_v2
  let main_cst_1 : FVec F S_ .f32 := constant S_ .f32 0x7F800000#32
  let main_v10 : FVec F S2x256x4x64 .f32 := broadcastInDim S2x256x4x64 ![] bcast_S_S2x256x4x64 main_cst_1
  let main_v11 : IVec S2x256x4x64 1 := cmpf .olt main_v9 main_v10
  (main_v5, main_v8, main_v11)
-- ==== Pre_finite_ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  bcast_S_S512x256 : S_.BroadcastsInDim S512x256 (![] : Fin 0 → Fin S512x256.rank)
  bcast_S_S2x8192x4x64 : S_.BroadcastsInDim S2x8192x4x64 (![] : Fin 0 → Fin S2x8192x4x64.rank)

variable [Facts]

def fn {F : FTy → Type} [FloatOps F] (main_arg0 : FVec F S2x8192x512 .bf16) (main_arg1 : FVec F S512x256 .bf16) (main_arg2 : FVec F S2x8192x4x64 .bf16) (main_arg3 : FVec F S2x8192x4x64 .bf16) (main_arg4 : FVec F S256x512 .bf16) : IVec S2x8192x512 1 × IVec S512x256 1 × IVec S2x8192x4x64 1 :=
  let main_v0 : FVec F S2x8192x512 .f32 := (extf .f32 · bitsLt_bf16_f32) main_arg0
  let main_v1 : FVec F S512x256 .f32 := (extf .f32 · bitsLt_bf16_f32) main_arg1
  let main_v2 : FVec F S2x8192x4x64 .f32 := (extf .f32 · bitsLt_bf16_f32) main_arg2
  let main_v3 : FVec F S2x8192x512 .f32 := Host.absf main_v0
  let main_cst : FVec F S_ .f32 := constant S_ .f32 0x7F800000#32
  let main_v4 : FVec F S2x8192x512 .f32 := broadcastInDim S2x8192x512 ![] bcast_S_S2x8192x512 main_cst
  let main_v5 : IVec S2x8192x512 1 := cmpf .olt main_v3 main_v4
  let main_v6 : FVec F S512x256 .f32 := Host.absf main_v1
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_v9 : FVec F S2x8192x4x64 .f32 := Host.absf main_v2
  let main_cst_1 : FVec F S_ .f32 := constant S_ .f32 0x7F800000#32
  let main_v10 : FVec F S2x8192x4x64 .f32 := broadcastInDim S2x8192x4x64 ![] bcast_S_S2x8192x4x64 main_cst_1
  let main_v11 : IVec S2x8192x4x64 1 := cmpf .olt main_v9 main_v10
  (main_v5, main_v8, main_v11)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S32 : Shape := ⟨1, ![32]⟩
abbrev S_ : Shape := ⟨0, ![]⟩
abbrev S1 : Shape := ⟨1, ![1]⟩
abbrev S2x2x4x32x256x64 : Shape := ⟨6, ![2, 2, 4, 32, 256, 64]⟩
abbrev S2x4x256x64 : Shape := ⟨4, ![2, 4, 256, 64]⟩
abbrev S16 : Shape := ⟨1, ![16]⟩
abbrev S15 : Shape := ⟨1, ![15]⟩
abbrev S1x2x4x1x256x64 : Shape := ⟨6, ![1, 2, 4, 1, 256, 64]⟩
abbrev S2x2x4x1x256x64 : Shape := ⟨6, ![2, 2, 4, 1, 256, 64]⟩
abbrev S2x2x4x256x64 : Shape := ⟨5, ![2, 2, 4, 256, 64]⟩
abbrev S512x512 : Shape := ⟨2, ![512, 512]⟩
abbrev S8x256x64 : Shape := ⟨3, ![8, 256, 64]⟩
abbrev S8x64x64 : Shape := ⟨3, ![8, 64, 64]⟩
abbrev S1x2x4x32x64x64 : Shape := ⟨6, ![1, 2, 4, 32, 64, 64]⟩
abbrev S2x4x32x64x64 : Shape := ⟨5, ![2, 4, 32, 64, 64]⟩
abbrev S8x2048x64 : Shape := ⟨3, ![8, 2048, 64]⟩
abbrev S8x64x2048 : Shape := ⟨3, ![8, 64, 2048]⟩
abbrev S8x64 : Shape := ⟨2, ![8, 64]⟩
abbrev S8x64x1 : Shape := ⟨3, ![8, 64, 1]⟩
abbrev S2x4x64x64 : Shape := ⟨4, ![2, 4, 64, 64]⟩

abbrev nBuf : Space → Nat
  | .hbm => 30
  | .vmem => 8
  | .smem => 2
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S2x2x4x32x256x64, .bf16⟩
  | .local _ .vmem, ⟨7, _⟩ => ⟨S2x4x256x64, .f32⟩
  | .local _ .smem, ⟨0, _⟩ => ⟨S1, .i32⟩
  | .local _ .smem, ⟨1, _⟩ => ⟨S1, .i32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_3 : Ref sig .tc := ⟨.hbm, 13, rfl⟩
abbrev main_v5 : Ref sig .tc := ⟨.hbm, 14, rfl⟩
abbrev main_c_4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg7_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_1 : BitVec 32 := 1#32
  let v3 : BitVec 32 := Scalar.muli v1 c1_i32_1
  let v4 : BitVec 32 := Scalar.addi c0_i32 v3
  v4.toNat

def k0_dev2 (v0 : BitVec 32) : Nat :=
  let c0_i32_4 : BitVec 32 := 0#32
  let c1_i32_3 : BitVec 32 := 1#32
  let v5 : BitVec 32 := Scalar.muli v0 c1_i32_3
  let v6 : BitVec 32 := Scalar.addi c0_i32_4 v5
  v6.toNat

def k0_dev3 (v0 : BitVec 32) : Nat :=
  let c0_i32_29 : BitVec 32 := 0#32
  let c1_i32_28 : BitVec 32 := 1#32
  let v19 : BitVec 32 := Scalar.muli v0 c1_i32_28
  let v20 : BitVec 32 := Scalar.addi c0_i32_29 v19
  v20.toNat
def k0_dev4 (v1 : BitVec 32) : Nat :=
  let c0_i32_44 : BitVec 32 := 0#32
  let c1_i32_43 : BitVec 32 := 1#32
  let v29 : BitVec 32 := Scalar.muli v1 c1_i32_43
  let v30 : BitVec 32 := Scalar.addi c0_i32_44 v29
  v30.toNat
def k0_dev5 (v0 : BitVec 32) : Nat :=
  let c0_i32_82 : BitVec 32 := 0#32
  let c1_i32_81 : BitVec 32 := 1#32
  let v59 : BitVec 32 := Scalar.muli v0 c1_i32_81
  let v60 : BitVec 32 := Scalar.addi c0_i32_82 v59
  v60.toNat
def k0_dev6 (v1 : BitVec 32) : Nat :=
  let c0_i32_113 : BitVec 32 := 0#32
  let c1_i32_112 : BitVec 32 := 1#32
  let v77 : BitVec 32 := Scalar.muli v1 c1_i32_112
  let v78 : BitVec 32 := Scalar.addi c0_i32_113 v77
  v78.toNat
def k0_dev7 (v0 : BitVec 32) : Nat :=
  let c0_i32_144 : BitVec 32 := 0#32
  let c1_i32_143 : BitVec 32 := 1#32
  let v95 : BitVec 32 := Scalar.muli v0 c1_i32_143
  let v96 : BitVec 32 := Scalar.addi c0_i32_144 v95
  v96.toNat
def k0_dev8 (v1 : BitVec 32) : Nat :=
  let c0_i32_175 : BitVec 32 := 0#32
  let c1_i32_174 : BitVec 32 := 1#32
  let v113 : BitVec 32 := Scalar.muli v1 c1_i32_174
  let v114 : BitVec 32 := Scalar.addi c0_i32_175 v113
  v114.toNat
def k0_dev9 (v0 : BitVec 32) : Nat :=
  let c0_i32_206 : BitVec 32 := 0#32
  let c1_i32_205 : BitVec 32 := 1#32
  let v131 : BitVec 32 := Scalar.muli v0 c1_i32_205
  let v132 : BitVec 32 := Scalar.addi c0_i32_206 v131
  v132.toNat
def k0_dev10 (v1 : BitVec 32) : Nat :=
  let c0_i32_237 : BitVec 32 := 0#32
  let c1_i32_236 : BitVec 32 := 1#32
  let v149 : BitVec 32 := Scalar.muli v1 c1_i32_236
  let v150 : BitVec 32 := Scalar.addi c0_i32_237 v149
  v150.toNat
def k0_dev11 (v0 : BitVec 32) : Nat :=
  let c0_i32_268 : BitVec 32 := 0#32
  let c1_i32_267 : BitVec 32 := 1#32
  let v167 : BitVec 32 := Scalar.muli v0 c1_i32_267
  let v168 : BitVec 32 := Scalar.addi c0_i32_268 v167
  v168.toNat
def k0_dev12 (v1 : BitVec 32) : Nat :=
  let c0_i32_299 : BitVec 32 := 0#32
  let c1_i32_298 : BitVec 32 := 1#32
  let v185 : BitVec 32 := Scalar.muli v1 c1_i32_298
  let v186 : BitVec 32 := Scalar.addi c0_i32_299 v185
  v186.toNat
def k0_dev13 (v0 : BitVec 32) : Nat :=
  let c0_i32_330 : BitVec 32 := 0#32
  let c1_i32_329 : BitVec 32 := 1#32
  let v203 : BitVec 32 := Scalar.muli v0 c1_i32_329
  let v204 : BitVec 32 := Scalar.addi c0_i32_330 v203
  v204.toNat
def k0_dev14 (v1 : BitVec 32) : Nat :=
  let c0_i32_361 : BitVec 32 := 0#32
  let c1_i32_360 : BitVec 32 := 1#32
  let v221 : BitVec 32 := Scalar.muli v1 c1_i32_360
  let v222 : BitVec 32 := Scalar.addi c0_i32_361 v221
  v222.toNat
def k0_dev15 (v0 : BitVec 32) : Nat :=
  let c0_i32_392 : BitVec 32 := 0#32
  let c1_i32_391 : BitVec 32 := 1#32
  let v239 : BitVec 32 := Scalar.muli v0 c1_i32_391
  let v240 : BitVec 32 := Scalar.addi c0_i32_392 v239
  v240.toNat
def k0_dev16 (v1 : BitVec 32) : Nat :=
  let c0_i32_423 : BitVec 32 := 0#32
  let c1_i32_422 : BitVec 32 := 1#32
  let v257 : BitVec 32 := Scalar.muli v1 c1_i32_422
  let v258 : BitVec 32 := Scalar.addi c0_i32_423 v257
  v258.toNat
def k0_dev17 (v0 : BitVec 32) : Nat :=
  let c0_i32_454 : BitVec 32 := 0#32
  let c1_i32_453 : BitVec 32 := 1#32
  let v275 : BitVec 32 := Scalar.muli v0 c1_i32_453
  let v276 : BitVec 32 := Scalar.addi c0_i32_454 v275
  v276.toNat
def k0_dev18 (v1 : BitVec 32) : Nat :=
  let c0_i32_485 : BitVec 32 := 0#32
  let c1_i32_484 : BitVec 32 := 1#32
  let v293 : BitVec 32 := Scalar.muli v1 c1_i32_484
  let v294 : BitVec 32 := Scalar.addi c0_i32_485 v293
  v294.toNat
def k0_dev19 (v0 : BitVec 32) : Nat :=
  let c0_i32_516 : BitVec 32 := 0#32
  let c1_i32_515 : BitVec 32 := 1#32
  let v311 : BitVec 32 := Scalar.muli v0 c1_i32_515
  let v312 : BitVec 32 := Scalar.addi c0_i32_516 v311
  v312.toNat
def k0_dev20 (v1 : BitVec 32) : Nat :=
  let c0_i32_547 : BitVec 32 := 0#32
  let c1_i32_546 : BitVec 32 := 1#32
  let v329 : BitVec 32 := Scalar.muli v1 c1_i32_546
  let v330 : BitVec 32 := Scalar.addi c0_i32_547 v329
  v330.toNat
def k0_dev21 (v0 : BitVec 32) : Nat :=
  let c0_i32_578 : BitVec 32 := 0#32
  let c1_i32_577 : BitVec 32 := 1#32
  let v347 : BitVec 32 := Scalar.muli v0 c1_i32_577
  let v348 : BitVec 32 := Scalar.addi c0_i32_578 v347
  v348.toNat
def k0_dev22 (v1 : BitVec 32) : Nat :=
  let c0_i32_609 : BitVec 32 := 0#32
  let c1_i32_608 : BitVec 32 := 1#32
  let v365 : BitVec 32 := Scalar.muli v1 c1_i32_608
  let v366 : BitVec 32 := Scalar.addi c0_i32_609 v365
  v366.toNat
def k0_dev23 (v0 : BitVec 32) : Nat :=
  let c0_i32_640 : BitVec 32 := 0#32
  let c1_i32_639 : BitVec 32 := 1#32
  let v383 : BitVec 32 := Scalar.muli v0 c1_i32_639
  let v384 : BitVec 32 := Scalar.addi c0_i32_640 v383
  v384.toNat
def k0_dev24 (v1 : BitVec 32) : Nat :=
  let c0_i32_671 : BitVec 32 := 0#32
  let c1_i32_670 : BitVec 32 := 1#32
  let v401 : BitVec 32 := Scalar.muli v1 c1_i32_670
  let v402 : BitVec 32 := Scalar.addi c0_i32_671 v401
  v402.toNat
def k0_dev25 (v0 : BitVec 32) : Nat :=
  let c0_i32_702 : BitVec 32 := 0#32
  let c1_i32_701 : BitVec 32 := 1#32
  let v419 : BitVec 32 := Scalar.muli v0 c1_i32_701
  let v420 : BitVec 32 := Scalar.addi c0_i32_702 v419
  v420.toNat
def k0_dev26 (v1 : BitVec 32) : Nat :=
  let c0_i32_733 : BitVec 32 := 0#32
  let c1_i32_732 : BitVec 32 := 1#32
  let v437 : BitVec 32 := Scalar.muli v1 c1_i32_732
  let v438 : BitVec 32 := Scalar.addi c0_i32_733 v437
  v438.toNat
def k0_dev27 (v0 : BitVec 32) : Nat :=
  let c0_i32_764 : BitVec 32 := 0#32
  let c1_i32_763 : BitVec 32 := 1#32
  let v455 : BitVec 32 := Scalar.muli v0 c1_i32_763
  let v456 : BitVec 32 := Scalar.addi c0_i32_764 v455
  v456.toNat
def k0_dev28 (v1 : BitVec 32) : Nat :=
  let c0_i32_795 : BitVec 32 := 0#32
  let c1_i32_794 : BitVec 32 := 1#32
  let v473 : BitVec 32 := Scalar.muli v1 c1_i32_794
  let v474 : BitVec 32 := Scalar.addi c0_i32_795 v473
  v474.toNat
def k0_dev29 (v0 : BitVec 32) : Nat :=
  let c0_i32_826 : BitVec 32 := 0#32
  let c1_i32_825 : BitVec 32 := 1#32
  let v491 : BitVec 32 := Scalar.muli v0 c1_i32_825
  let v492 : BitVec 32 := Scalar.addi c0_i32_826 v491
  v492.toNat
def k0_dev30 (v1 : BitVec 32) : Nat :=
  let c0_i32_857 : BitVec 32 := 0#32
  let c1_i32_856 : BitVec 32 := 1#32
  let v509 : BitVec 32 := Scalar.muli v1 c1_i32_856
  let v510 : BitVec 32 := Scalar.addi c0_i32_857 v509
  v510.toNat
def k0_dev31 (v0 : BitVec 32) : Nat :=
  let c0_i32_888 : BitVec 32 := 0#32
  let c1_i32_887 : BitVec 32 := 1#32
  let v527 : BitVec 32 := Scalar.muli v0 c1_i32_887
  let v528 : BitVec 32 := Scalar.addi c0_i32_888 v527
  v528.toNat
def k0_dev32 (v1 : BitVec 32) : Nat :=
  let c0_i32_919 : BitVec 32 := 0#32
  let c1_i32_918 : BitVec 32 := 1#32
  let v545 : BitVec 32 := Scalar.muli v1 c1_i32_918
  let v546 : BitVec 32 := Scalar.addi c0_i32_919 v545
  v546.toNat

def k0_chk1 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev8_lt : ∀ (v1 : BitVec 32) (k0_hw1 : k0_chk1 v1), (k0_dev8 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev12_lt : ∀ (v1 : BitVec 32) (k0_hw1 : k0_chk1 v1), (k0_dev12 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev16_lt : ∀ (v1 : BitVec 32) (k0_hw1 : k0_chk1 v1), (k0_dev16 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev20_lt : ∀ (v1 : BitVec 32) (k0_hw1 : k0_chk1 v1), (k0_dev20 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev24_lt : ∀ (v1 : BitVec 32) (k0_hw1 : k0_chk1 v1), (k0_dev24 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev28_lt : ∀ (v1 : BitVec 32) (k0_hw1 : k0_chk1 v1), (k0_dev28 v1) < nD := fun v1 k0_hw1 => k0_hw1.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2.1
theorem k0_dev32_lt : ∀ (v1 : BitVec 32) (k0_hw1 : k0_chk1 v1), (k0_dev32 v1) < nD := fun v1 k0_hw1 => k0_hw1.2.2.2.2.2.2.2.2.2.2.2.2.2.2.2

def k0_dev33 (v0 : BitVec 32) : Nat :=
  let c0_i32_950 : BitVec 32 := 0#32
  let c1_i32_949 : BitVec 32 := 1#32
  let v563 : BitVec 32 := Scalar.muli v0 c1_i32_949
  let v564 : BitVec 32 := Scalar.addi c0_i32_950 v563
  v564.toNat

def k0_chk2 (v0 : BitVec 32) : Prop :=
  ((k0_dev2 v0) < nD) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD)
theorem k0_dev2_lt : ∀ (v0 : BitVec 32) (k0_hw2 : k0_chk2 v0), (k0_dev2 v0) < nD := fun v0 k0_hw2 => k0_hw2.1
theorem k0_dev3_lt : ∀ (v0 : BitVec 32) (k0_hw2 : k0_chk2 v0), (k0_dev3 v0) < nD := fun v0 k0_hw2 => k0_hw2.2.1
theorem k0_dev5_lt : ∀ (v0 : BitVec 32) (k0_hw2 : k0_chk2 v0), (k0_dev5 v0) < nD := fun v0 k0_hw2 => k0_hw2.2.2.1
theorem k0_dev7_lt : ∀ (v0 : BitVec 32) (k0_hw2 : k0_chk2 v0), (k0_dev7 v0) < nD := fun v0 k0_hw2 => k0_hw2.2.2.2.1
theorem k0_dev9_lt : ∀ (v0 : BitVec 32) (k0_hw2 : k0_chk2 v0), (k0_dev9 v0) < nD := fun v0 k0_hw2 => k0_hw2.2.2.2.2.1
theorem k0_dev11_lt : ∀ (v0 : BitVec 32) (k0_hw2 : k0_chk2 v0), (k0_dev11 v0) < nD := fun v0 k0_hw2 => k0_hw2.2.2.2.2.2.1
theorem k0_dev13_lt : ∀ (v0 : BitVec 32) (k0_hw2 : k0_chk2 v0), (k0_dev13 v0) < nD := fun v0 k0_hw2 => k0_hw2.2.2.2.2.2.2.1
theorem k0_dev15_lt : ∀ (v0 : BitVec 32) (k0_hw2 : k0_chk2 v0), (k0_dev15 v0) < nD := fun v0 k0_hw2 => k0_hw2.2.2.2.2.2.2.2.1
theorem k0_dev17_lt : ∀ (v0 : BitVec 32) (k0_hw2 : k0_chk2 v0), (k0_dev17 v0) < nD := fun v0 k0_hw2 => k0_hw2.2.2.2.2.2.2.2.2.1
theorem k0_dev19_lt : ∀ (v0 : BitVec 32) (k0_hw2 : k0_chk2 v0), (k0_dev19 v0) < nD := fun v0 k0_hw2 => k0_hw2.2.2.2.2.2.2.2.2.2.1
theorem k0_dev21_lt : ∀ (v0 : BitVec 32) (k0_hw2 : k0_chk2 v0), (k0_dev21 v0) < nD := fun v0 k0_hw2 => k0_hw2.2.2.2.2.2.2.2.2.2.2.1
theorem k0_dev23_lt : ∀ (v0 : BitVec 32) (k0_hw2 : k0_chk2 v0), (k0_dev23 v0) < nD := fun v0 k0_hw2 => k0_hw2.2.2.2.2.2.2.2.2.2.2.2.1
theorem k0_dev25_lt : ∀ (v0 : BitVec 32) (k0_hw2 : k0_chk2 v0), (k0_dev25 v0) < nD := fun v0 k0_hw2 => k0_hw2.2.2.2.2.2.2.2.2.2.2.2.2.1
theorem k0_dev27_lt : ∀ (v0 : BitVec 32) (k0_hw2 : k0_chk2 v0), (k0_dev27 v0) < nD := fun v0 k0_hw2 => k0_hw2.2.2.2.2.2.2.2.2.2.2.2.2.2.1
theorem k0_dev29_lt : ∀ (v0 : BitVec 32) (k0_hw2 : k0_chk2 v0), (k0_dev29 v0) < nD := fun v0 k0_hw2 => k0_hw2.2.2.2.2.2.2.2.2.2.2.2.2.2.2.1
theorem k0_dev31_lt : ∀ (v0 : BitVec 32) (k0_hw2 : k0_chk2 v0), (k0_dev31 v0) < nD := fun v0 k0_hw2 => k0_hw2.2.2.2.2.2.2.2.2.2.2.2.2.2.2.2.1
theorem k0_dev33_lt : ∀ (v0 : BitVec 32) (k0_hw2 : k0_chk2 v0), (k0_dev33 v0) < nD := fun v0 k0_hw2 => k0_hw2.2.2.2.2.2.2.2.2.2.2.2.2.2.2.2.2

abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S2x8192x256 : Shape := ⟨3, ![2, 8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S2x4x8192x8192 : Shape := ⟨4, ![2, 4, 8192, 8192]⟩
abbrev S1x1x8192x8192 : Shape := ⟨4, ![1, 1, 8192, 8192]⟩
abbrev S2x4x8192 : Shape := ⟨3, ![2, 4, 8192]⟩
abbrev S2x4x8192x1 : Shape := ⟨4, ![2, 4, 8192, 1]⟩
abbrev S1x1x8192x1 : Shape := ⟨4, ![1, 1, 8192, 1]⟩
abbrev S2x4x64x8192 : Shape := ⟨4, ![2, 4, 64, 8192]⟩

abbrev nBuf : Space → Nat
  | .hbm => 142
  | .vmem => 0
  | .smem => 0
  | _ => 0

abbrev hbmTy0_0 (i : Nat) : BufTy := match i % 128 with
  | 0 => ⟨S2x8192x512, .bf16⟩
  | 1 => ⟨S512x256, .bf16⟩
  | 2 => ⟨S2x8192x4x64, .bf16⟩
  | 3 => ⟨S2x8192x4x64, .bf16⟩
  | 4 => ⟨S256x512, .bf16⟩
  | 5 => ⟨S2x8192x512, .f32⟩
  | 6 => ⟨S512x256, .f32⟩
  | 7 => ⟨S2x8192x4x64, .f32⟩
  | 8 => ⟨S2x8192x4x64, .f32⟩
  | 9 => ⟨S256x512, .f32⟩
  | 10 => ⟨S2x8192x256, .f32⟩
  | 11 => ⟨S2x8192x4x64, .f32⟩
  | 12 => ⟨S8192, .i32⟩
  | 13 => ⟨S_, .i32⟩
  | 14 => ⟨S_, .i32⟩
  | 15 => ⟨S8192, .i32⟩
  | 16 => ⟨S8192, .i32⟩
  | 17 => ⟨S8192, .i32⟩
  | 18 => ⟨S_, .i32⟩
  | 19 => ⟨S8192, .i32⟩
  | 20 => ⟨S8192, .i1⟩
  | 21 => ⟨S8192, .i32⟩
  | 22 => ⟨S8192, .i32⟩
  | 23 => ⟨S_, .i32⟩
  | 24 => ⟨S8192, .i32⟩
  | 25 => ⟨S8192, .i1⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192, .i32⟩
  | 33 => ⟨S_, .i32⟩
  | 34 => ⟨S_, .i32⟩
  | 35 => ⟨S8192, .i32⟩
  | 36 => ⟨S8192, .i32⟩
  | 37 => ⟨S8192, .i32⟩
  | 38 => ⟨S_, .i32⟩
  | 39 => ⟨S8192, .i32⟩
  | 40 => ⟨S8192, .i1⟩
  | 41 => ⟨S8192, .i32⟩
  | 42 => ⟨S8192, .i32⟩
  | 43 => ⟨S_, .i32⟩
  | 44 => ⟨S8192, .i32⟩
  | 45 => ⟨S8192, .i1⟩
  | 46 => ⟨S8192, .i1⟩
  | 47 => ⟨S_, .i32⟩
  | 48 => ⟨S8192, .i32⟩
  | 49 => ⟨S8192, .i32⟩
  | 50 => ⟨S8192, .i32⟩
  | 51 => ⟨S1x8192, .i32⟩
  | 52 => ⟨S8192x8192, .i32⟩
  | 53 => ⟨S8192x8192, .i32⟩
  | 54 => ⟨S8192x8192, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x8192, .i32⟩
  | 62 => ⟨S1x8192, .i32⟩
  | 63 => ⟨S_, .i32⟩
  | 64 => ⟨S1x8192, .i32⟩
  | 65 => ⟨S1x8192, .i1⟩
  | 66 => ⟨S_, .i32⟩
  | 67 => ⟨S1x8192, .i32⟩
  | 68 => ⟨S1x8192, .i1⟩
  | 69 => ⟨S_, .i32⟩
  | 70 => ⟨S_, .i1⟩
  | 71 => ⟨S1x8192, .i1⟩
  | 72 => ⟨S1x8192, .i1⟩
  | 73 => ⟨S1x8192, .i1⟩
  | 74 => ⟨S1x8192, .i32⟩
  | 75 => ⟨S1x8192, .i32⟩
  | 76 => ⟨S1x8192, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S8192x1, .i32⟩
  | 84 => ⟨S8192x1, .i32⟩
  | 85 => ⟨S_, .i32⟩
  | 86 => ⟨S8192x1, .i32⟩
  | 87 => ⟨S8192x1, .i1⟩
  | 88 => ⟨S_, .i32⟩
  | 89 => ⟨S8192x1, .i32⟩
  | 90 => ⟨S8192x1, .i1⟩
  | 91 => ⟨S_, .i32⟩
  | 92 => ⟨S_, .i1⟩
  | 93 => ⟨S8192x1, .i1⟩
  | 94 => ⟨S8192x1, .i1⟩
  | 95 => ⟨S8192x1, .i1⟩
  | 96 => ⟨S8192x1, .i32⟩
  | 97 => ⟨S8192x1, .i32⟩
  | 98 => ⟨S8192x1, .i32⟩
  | 99 => ⟨S8192x8192, .i32⟩
  | 100 => ⟨S8192x8192, .i32⟩
  | 101 => ⟨S8192x8192, .i1⟩
  | 102 => ⟨S8192x8192, .i1⟩
  | 103 => ⟨S2x4x8192x8192, .f32⟩
  | 104 => ⟨S_, .f32⟩
  | 105 => ⟨S2x4x8192x8192, .f32⟩
  | 106 => ⟨S2x4x8192x8192, .f32⟩
  | 107 => ⟨S1x1x8192x8192, .i1⟩
  | 108 => ⟨S_, .f32⟩
  | 109 => ⟨S_, .f32⟩
  | 110 => ⟨S2x4x8192x8192, .i1⟩
  | 111 => ⟨S2x4x8192x8192, .f32⟩
  | 112 => ⟨S2x4x8192x8192, .f32⟩
  | 113 => ⟨S_, .f32⟩
  | 114 => ⟨S2x4x8192, .f32⟩
  | 115 => ⟨S2x4x8192x1, .f32⟩
  | 116 => ⟨S2x4x8192x8192, .f32⟩
  | 117 => ⟨S2x4x8192x8192, .f32⟩
  | 118 => ⟨S2x4x8192x8192, .f32⟩
  | 119 => ⟨S_, .i1⟩
  | 120 => ⟨S8192, .i1⟩
  | 121 => ⟨S1x1x8192x1, .i1⟩
  | 122 => ⟨S_, .f32⟩
  | 123 => ⟨S2x4x8192, .f32⟩
  | 124 => ⟨S2x4x8192x1, .f32⟩
  | 125 => ⟨S_, .f32⟩
  | 126 => ⟨S_, .f32⟩
  | 127 => ⟨S2x4x8192x1, .i1⟩
  | _ => ⟨S2x8192x512, .bf16⟩

abbrev hbmTy0_1 (i : Nat) : BufTy := match i % 128 with
  | 0 => ⟨S2x4x8192x1, .f32⟩
  | 1 => ⟨S2x4x8192x1, .f32⟩
  | 2 => ⟨S2x4x8192x8192, .f32⟩
  | 3 => ⟨S2x4x8192x8192, .f32⟩
  | 4 => ⟨S1x1x8192x1, .i1⟩
  | 5 => ⟨S_, .f32⟩
  | 6 => ⟨S_, .f32⟩
  | 7 => ⟨S2x4x8192x8192, .i1⟩
  | 8 => ⟨S2x4x8192x8192, .f32⟩
  | 9 => ⟨S2x4x8192x8192, .f32⟩
  | 10 => ⟨S2x4x64x8192, .f32⟩
  | 11 => ⟨S2x8192x4x64, .f32⟩
  | 12 => ⟨S2x8192x256, .f32⟩
  | 13 => ⟨S2x8192x512, .f32⟩
  | _ => ⟨S2x8192x512, .bf16⟩

abbrev hbmTy (i : Nat) : BufTy := match i / 128 with
  | 0 => hbmTy0_0 i
  | 1 => hbmTy0_1 i
  | _ => ⟨S2x8192x512, .bf16⟩

abbrev bufTy : (tb : Table) → Fin (tcTables nBuf tb) → BufTy
  | .hbm, ⟨i, _⟩ => hbmTy i
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Common.lean ====
/-
  What the parts of the kernel's proof share: the ring of 32 devices, the gathered buffer's 32 slots, what each slot holds once
  the two directions of the ring have passed, and the schedule of the kernel's 63 cells on each device.

  Per device c, with nxt c its right neighbour and prv c its left one:

  * the barrier cell takes one unit from each neighbour. The unit from nxt c hands c the slots 1..16 of nxt c, the one from
    prv c the slots 17..31 of prv c: where c's copies land;
  * the forward copy h (0..15) reads c's slot h and lands in slot h+1 of nxt c; it pays nxt c's forward receive cell h with that
    slot and c's forward send cell h with the lent share of slot h;
  * the backward copy h (0..14) reads c's slot 0 (h = 0) or 16+h and lands in slot 17+h of prv c, in the same way.
-/
module

public import proofs.«01_k».proof.Defs
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds component of the kernel's own cells: duties named by a Boolean (the barrier has two). -/
abbrev URb : Type := URounds (GSem nD τ sig) Bool
/-- The pipeline's component, and the two side by side. -/
abbrev URp : Type := URounds (GSem nD τ sig) Unit
abbrev UU : Type := URp × URb

local notation "𝕄" => MT nD τ sig Unit (Elt F) ℕ UU ℕ

abbrev EP : Emb (URp) (MT nD τ sig Unit (Elt F) ℕ UU ℕ) := embL
abbrev ER : Emb URb (MT nD τ sig Unit (Elt F) ℕ UU ℕ) := embR

/-! ## The ring -/

/-- The right neighbour of each device, -/
def nxt (c : Dev nD) : Dev nD :=
  (![3, 0, 1, 4, 7, 2, 5, 15, 16, 10, 13, 8, 11, 14, 6, 12, 19, 9, 17, 20, 23, 18, 21, 31, 25, 26, 29, 24, 27, 30, 22, 28] : Fin 32 → Fin 32) c
/-- and the left one. -/
def prv (c : Dev nD) : Dev nD :=
  (![1, 2, 5, 0, 3, 6, 14, 4, 11, 17, 9, 12, 15, 10, 13, 7, 8, 18, 21, 16, 19, 22, 30, 20, 27, 24, 25, 28, 31, 26, 29, 23] : Fin 32 → Fin 32) c

theorem nxt_prv (c : Dev nD) : nxt (prv c) = c := by revert c; decide
theorem prv_nxt (c : Dev nD) : prv (nxt c) = c := by revert c; decide

/-- The ring as a permutation of the devices. -/
def ring : Dev nD ≃ Dev nD := ⟨nxt, prv, prv_nxt, nxt_prv⟩

/-- The device whose block slot k of device c ends up holding: k steps to the left for k ≤ 16, k - 16 steps to the right beyond. -/
def src (c : Dev nD) (k : ℕ) : Dev nD := if k ≤ 16 then prv^[k] c else nxt^[k - 16] c

theorem src_zero (c : Dev nD) : src c 0 = c := rfl
/-- One step of the forward direction. -/
theorem src_fwd (c : Dev nD) {h : ℕ} (hh : h < 16) : src (nxt c) (h + 1) = src c h := by
  unfold src; rw [if_pos (by omega), if_pos (by omega), Function.iterate_succ_apply, prv_nxt]
/-- The slot the backward copy h reads. -/
def bslot (h : ℕ) : ℕ := if h = 0 then 0 else 16 + h
/-- One step of the backward direction. -/
theorem src_bwd (c : Dev nD) {h : ℕ} (hh : h < 15) : src (prv c) (17 + h) = src c (bslot h) := by
  unfold src bslot
  rw [if_neg (by omega), show 17 + h - 16 = h + 1 by omega, Function.iterate_succ_apply, nxt_prv]
  by_cases h0 : h = 0
  · subst h0; rfl
  · rw [if_neg h0, if_neg (by omega), show 16 + h - 16 = h by omega]

/-! ## The gathered buffer and its slots -/

abbrev kvM : Memref sig .tc .vmem S2x2x4x32x256x64 .bf16 := Memref.whole cc0_scratch0

theorem slot_inb {k : ℕ} (hk : k < 32) : ∀ a, (![0, 0, 0, k, 0, 0] : Fin 6 → ℕ) a + S2x2x4x1x256x64.size a ≤ S2x2x4x32x256x64.size a := by
  intro a
  fin_cases a
  · show 0 + 2 ≤ 2; omega
  · show 0 + 2 ≤ 2; omega
  · show 0 + 4 ≤ 4; omega
  · show k + 1 ≤ 32; omega
  · show 0 + 256 ≤ 256; omega
  · show 0 + 64 ≤ 64; omega

/-- The rectangle of slot k, -/
abbrev slotR (k : ℕ) (hk : k < 32) : Rect S2x2x4x32x256x64 :=
  Rect.unit (s := S2x2x4x32x256x64) ![0, 0, 0, k, 0, 0] S2x2x4x1x256x64.size (slot_inb hk)
/-- and the slot as the copies address it. -/
abbrev slotM (k : ℕ) (hk : k < 32) : Memref sig .tc .vmem S2x2x4x256x64 .bf16 :=
  (kvM.slice (slotR k hk) (fun _ => rfl)).squeeze S2x2x4x256x64 squeezes_S2x2x4x1x256x64_S2x2x4x256x64

/-- The elements of slot k. -/
@[irreducible] def slotSet (k : ℕ) : Finset S2x2x4x32x256x64.Idx := Finset.univ.filter fun i => (i 3).val = k

theorem mem_slotSet {k : ℕ} {i : S2x2x4x32x256x64.Idx} : i ∈ slotSet k ↔ (i 3).val = k := by
  unfold slotSet; rw [Finset.mem_filter]; exact ⟨fun h => h.2, fun h => ⟨Finset.mem_univ _, h⟩⟩

theorem slotR_set (k : ℕ) (hk : k < 32) : (slotR k hk).set = slotSet k := by
  ext i
  rw [mem_slotSet, Rect.mem_set_unit]
  constructor
  · intro h
    have := h 3
    have h1 : k ≤ (i 3).val := this.1
    have h2 : (i 3).val < k + 1 := this.2
    omega
  · intro h a
    fin_cases a
    · exact ⟨Nat.zero_le _, (i 0).isLt⟩
    · exact ⟨Nat.zero_le _, (i 1).isLt⟩
    · exact ⟨Nat.zero_le _, (i 2).isLt⟩
    · exact ⟨(show k ≤ (i 3).val by omega), (show (i 3).val < k + 1 by omega)⟩
    · exact ⟨Nat.zero_le _, (show (i 4).val < 0 + 256 by have := (i 4).isLt; simpa using this)⟩
    · exact ⟨Nat.zero_le _, (show (i 5).val < 0 + 64 by have := (i 5).isLt; simpa using this)⟩

theorem slotM_set (k : ℕ) (hk : k < 32) : (slotM k hk).view.set = slotSet k := by
  refine (View.set_reshape _ _).trans ((View.set_slice_whole cc0_scratch0 (slotR k hk)).trans (slotR_set k hk))

theorem slots_disjoint {k k' : ℕ} (h : k ≠ k') : Disjoint (slotSet k) (slotSet k') :=
  Finset.disjoint_left.mpr fun i hi hi' => h ((mem_slotSet.mp hi).symm.trans (mem_slotSet.mp hi'))

/-- What a copy into a slot counts. -/
def N : ℕ := (slotM 0 (by decide)).view.dmaCredit
theorem N_pos : 0 < N := by unfold N; exact View.dmaCredit_pos _ (by decide)
theorem slot_credit (k : ℕ) (hk : k < 32) : (slotM k hk).view.dmaCredit = N := by unfold N; rfl

/-! ## Contents -/

/-- One device's block of keys and values, by the coordinates of a slot; the gathered buffer's contents. -/
abbrev Blk (F : FTy → Type) [FloatOps F] : Type := S2x2x4x1x256x64.Idx → Elt F .bf16
abbrev KV (F : FTy → Type) [FloatOps F] (c : Dev nD) : Type := Buf (Elt F) ((c : Thread nD τ).loc cc0_scratch0)

/-- A slot's coordinates of an index of the gathered buffer: the slot forgotten. -/
def norm (i : S2x2x4x32x256x64.Idx) : S2x2x4x1x256x64.Idx := fun
  | 0 => i 0 | 1 => i 1 | 2 => i 2 | 3 => (0 : Fin 1) | 4 => i 4 | 5 => i 5
  | ⟨n + 6, h⟩ => absurd h (by show ¬ n + 6 < 6; omega)

/-- The gathered buffer of device c once every slot has landed. -/
@[irreducible] def G (X : Dev nD → Blk F) (c : Dev nD) : KV F c := fun (i : S2x2x4x32x256x64.Idx) => X (src c (i 3).val) (norm i)

theorem slotR_emb_three (k : ℕ) (hk : k < 32) (y : S2x2x4x1x256x64.Idx) : ((slotR k hk).emb y (3 : Fin 6)).val = k := by
  show k + 1 * (y 3).val = k
  have : (y 3).val < 1 := (y 3).isLt
  omega

theorem norm_emb (k : ℕ) (hk : k < 32) (y : S2x2x4x1x256x64.Idx) : norm ((slotR k hk).emb y) = y := by
  funext a
  apply Fin.ext
  fin_cases a
  · show 0 + 1 * (y 0).val = (y 0).val; omega
  · show 0 + 1 * (y 1).val = (y 1).val; omega
  · show 0 + 1 * (y 2).val = (y 2).val; omega
  · show 0 = (y 3).val
    have : (y 3).val < 1 := (y 3).isLt
    omega
  · show 0 + 1 * (y 4).val = (y 4).val; omega
  · show 0 + 1 * (y 5).val = (y 5).val; omega

theorem G_emb (X : Dev nD → Blk F) (c : Dev nD) (k : ℕ) (hk : k < 32) (y : S2x2x4x1x256x64.Idx) :
    G X c ((slotR k hk).emb y) = X (src c k) y := by
  unfold G
  show X (src c ((slotR k hk).emb y (3 : Fin 6)).val) (norm ((slotR k hk).emb y)) = _
  rw [slotR_emb_three, norm_emb]

/-- A copy from slot k of c, holding the gathered contents there, into slot k' of c', where the two are to hold the same block. -/
theorem landed_eq (X : Dev nD → Blk F) (c c' : Dev nD) (k k' : ℕ) (hk : k < 32) (hk' : k' < 32) (h : src c' k' = src c k)
    (fd : KV F c') (i : S2x2x4x32x256x64.Idx) (hi : i ∈ (slotM k' hk').view.set) :
    (slotM k' hk').view.write (Elt F) fd ((slotM k hk).view.read (Elt F) (G X c)) Finset.univ i = G X c' i := by
  obtain ⟨j, -, rfl⟩ := Finset.mem_map.mp hi
  rw [View.write_emb_of_mem (v := (slotM k' hk').view) _ _ (Finset.mem_univ j)]
  show cast _ (G X c ((slotR k hk).emb (Shape.reshapeEquiv _ j))) = G X c' ((slotR k' hk').emb (Shape.reshapeEquiv _ j))
  rw [G_emb, G_emb, h]; rfl

/-! ## The cells -/

theorem inb16 {h : ℕ} (hh : h < 16) : ∀ a, (![h] : Fin 1 → ℕ) a + S1.size a ≤ S16.size a := by
  intro a; fin_cases a; show h + 1 ≤ 16; omega
theorem inb15 {h : ℕ} (hh : h < 15) : ∀ a, (![h] : Fin 1 → ℕ) a + S1.size a ≤ S15.size a := by
  intro a; fin_cases a; show h + 1 ≤ 15; omega

/-- The forward send and receive semaphores, and the backward ones. -/
abbrev fsS (h : ℕ) (hh : h < 16) : DmaSem sig := ((cc0_scratch2.slice (Rect.unit (s := S16) ![h] S1.size (inb16 hh))).squeeze S_ squeezes_S1_S_).sem
abbrev frS (h : ℕ) (hh : h < 16) : DmaSem sig := ((cc0_scratch3.slice (Rect.unit (s := S16) ![h] S1.size (inb16 hh))).squeeze S_ squeezes_S1_S_).sem
abbrev bsS (h : ℕ) (hh : h < 15) : DmaSem sig := ((cc0_scratch4.slice (Rect.unit (s := S15) ![h] S1.size (inb15 hh))).squeeze S_ squeezes_S1_S_).sem
abbrev brS (h : ℕ) (hh : h < 15) : DmaSem sig := ((cc0_scratch5.slice (Rect.unit (s := S15) ![h] S1.size (inb15 hh))).squeeze S_ squeezes_S1_S_).sem
theorem at_val {d : Fin 1 → ℕ} {h : ℕ} (hb : ∀ a, (![h] : Fin 1 → ℕ) a + S1.size a ≤ (⟨1, d⟩ : Shape).size a) (y : S1.Idx) :
    ((⟨1, d⟩ : Shape).rowMajor ((Rect.unit (s := ⟨1, d⟩) ![h] S1.size hb).emb y)).val = h := by
  rw [Shape.rowMajor_val_one]
  show h + 1 * (y 0).val = h
  have : (y 0).val < 1 := (y 0).isLt
  omega

/-- The barrier semaphore. -/
abbrev barS : Sem sig := (SemArray.scalar (sig.barrier 0 rfl) : Sems sig S_).sem

theorem fsS_val (h : ℕ) (hh : h < 16) : (fsS h hh).val = 8 + h := congrArg (8 + ·) (at_val (inb16 hh) _)
theorem frS_val (h : ℕ) (hh : h < 16) : (frS h hh).val = 24 + h := congrArg (24 + ·) (at_val (inb16 hh) _)
theorem bsS_val (h : ℕ) (hh : h < 15) : (bsS h hh).val = 40 + h := congrArg (40 + ·) (at_val (inb15 hh) _)
theorem brS_val (h : ℕ) (hh : h < 15) : (brS h hh).val = 55 + h := congrArg (55 + ·) (at_val (inb15 hh) _)

abbrev barC (c : Dev nD) : GSem nD τ sig := ((c : Thread nD τ), .reg barS)
abbrev fsC (c : Dev nD) (h : ℕ) (hh : h < 16) : GSem nD τ sig := ((c : Thread nD τ), .dma (fsS h hh))
abbrev frC (c : Dev nD) (h : ℕ) (hh : h < 16) : GSem nD τ sig := ((c : Thread nD τ), .dma (frS h hh))
abbrev bsC (c : Dev nD) (h : ℕ) (hh : h < 15) : GSem nD τ sig := ((c : Thread nD τ), .dma (bsS h hh))
abbrev brC (c : Dev nD) (h : ℕ) (hh : h < 15) : GSem nD τ sig := ((c : Thread nD τ), .dma (brS h hh))

/-! ## What the cells hand over -/

/-- Slot k of device c at share q and contents f. -/
abbrev slotPt (c : Dev nD) (k : ℕ) (q : PosShare TreeShare) (f : KV F c) : sProp 𝕄 :=
  ((c : Thread nD τ).loc cc0_scratch0) ↦[slotSet k]{q} f

/-- The share lent to the forward copy out of slot h, and to the backward copy h. -/
@[irreducible] def shF (h : ℕ) : PosShare TreeShare := if h = 0 then fullShare.right.left else fullShare.right
@[irreducible] def shB (h : ℕ) : PosShare TreeShare := if h = 0 then fullShare.right.right else fullShare.right

/-- Paid to device c's barrier by its right neighbour: that neighbour's slots 1..16, and that its forward receive cells are at round 0. -/
def barPayF (c : Dev nD) : sProp 𝕄 :=
  iprop((bigSep Finset.univ fun h : Fin 16 => iprop(∃ f : KV F (nxt c), slotPt (nxt c) (h.val + 1) fullShare f))
    ∗ bigSep Finset.univ fun h : Fin 16 => reached ER (frC (nxt c) h.val h.isLt) 0)
/-- Paid to device c's barrier by its left neighbour: that neighbour's slots 17..31, and that its backward receive cells are at round 0. -/
def barPayB (c : Dev nD) : sProp 𝕄 :=
  iprop((bigSep Finset.univ fun h : Fin 15 => iprop(∃ f : KV F (prv c), slotPt (prv c) (17 + h.val) fullShare f))
    ∗ bigSep Finset.univ fun h : Fin 15 => reached ER (brC (prv c) h.val h.isLt) 0)

variable (X : Dev nD → Blk F)

/-- Paid to device c's copy semaphore number n. -/
def dmaPay (c : Dev nD) (n : ℕ) : sProp 𝕄 :=
  if n < 24 then slotPt c (n - 8) (shF (n - 8)) (G X c)
  else if n < 40 then slotPt c (n - 24 + 1) fullShare (G X c)
  else if n < 55 then slotPt c (bslot (n - 40)) (shB (n - 40)) (G X c)
  else slotPt c (17 + (n - 55)) fullShare (G X c)

/-- One round on every cell: two duties on the barrier, one on each copy semaphore. -/
def Rd : Rounds.Schedule (GSem nD τ sig) Bool 𝕄 where
  duties g r := if r = 0 ∧ g.1.2 = .tc then (match g.2 with | .reg _ => {false, true} | .dma _ => {false}) else ∅
  unitless _ := False
  amount g _ _ := match g.2 with | .reg _ => 1 | .dma _ => N
  payload g _ d := match g.2 with
    | .reg _ => if d then barPayB g.1.1 else barPayF g.1.1
    | .dma s => dmaPay X g.1.1 s.val
  amount_pos g _ _ _ := by
    rcases g with ⟨t, s | s⟩
    · exact Nat.one_pos
    · exact N_pos

instance storable_dmaPay (c : Dev nD) (n : ℕ) : BI.Storable (upEmb : UEmb _ 𝕄) (dmaPay (F := F) X c n) := by
  unfold dmaPay; (repeat' split) <;> infer_instance
instance storable_barPayF (c : Dev nD) : BI.Storable (upEmb : UEmb _ 𝕄) (barPayF (F := F) c) := by
  unfold barPayF; infer_instance
instance storable_barPayB (c : Dev nD) : BI.Storable (upEmb : UEmb _ 𝕄) (barPayB (F := F) c) := by
  unfold barPayB; infer_instance
instance Rd_payload_storable (g : GSem nD τ sig) (r : ℕ) (d : Bool) : BI.Storable (upEmb : UEmb _ 𝕄) ((Rd (F := F) X).payload g r d) := by
  rcases g with ⟨t, s | s⟩
  · show BI.Storable upEmb (if d then barPayB t.1 else barPayF t.1)
    split <;> infer_instance
  · show BI.Storable upEmb (dmaPay X t.1 s.val)
    infer_instance

theorem duties_bar (c : Dev nD) : (Rd X).duties (barC c) 0 = {false, true} := by dsimp only [Rd]; exact if_pos ⟨rfl, rfl⟩
theorem duties_dma (c : Dev nD) (s : DmaSem sig) : (Rd X).duties ((c : Thread nD τ), .dma s) 0 = {false} := by dsimp only [Rd]; exact if_pos ⟨rfl, rfl⟩
theorem duties_later (g : GSem nD τ sig) : ∀ r, 1 ≤ r → (Rd X).duties g r = ∅ :=
  fun r hr => by dsimp only [Rd]; rw [if_neg (fun h => by omega)]
theorem expect_bar (c : Dev nD) : (Rd X).expect (barC c) 0 = 2 := by
  unfold Schedule.expect Schedule.amountOf; rw [duties_bar]; rfl
theorem expect_dma (c : Dev nD) (s : DmaSem sig) : (Rd X).expect ((c : Thread nD τ), .dma s) 0 = N := by
  unfold Schedule.expect Schedule.amountOf; rw [duties_dma, Finset.sum_singleton]; rfl
theorem rest_bar (c : Dev nD) : bigSep ((Rd X).duties (barC c) 0 \ ∅) (fun u => (Rd X).payload (barC c) 0 u) = iprop(barPayF c ∗ barPayB c) := by
  rw [Finset.sdiff_empty, duties_bar, bigSep_insert (by decide), bigSep_singleton]; rfl
theorem rest_dma (c : Dev nD) (s : DmaSem sig) :
    bigSep ((Rd X).duties ((c : Thread nD τ), .dma s) 0 \ ∅) (fun u => (Rd X).payload ((c : Thread nD τ), .dma s) 0 u) = dmaPay X c s.val := by
  rw [Finset.sdiff_empty, duties_dma, bigSep_singleton]; rfl

theorem pay_fs (c : Dev nD) (h : ℕ) (hh : h < 16) : dmaPay X c (fsS h hh).val = slotPt c h (shF h) (G X c) := by
  rw [fsS_val]; unfold dmaPay; rw [if_pos (by omega), show 8 + h - 8 = h by omega]
theorem pay_fr (c : Dev nD) (h : ℕ) (hh : h < 16) : dmaPay X c (frS h hh).val = slotPt c (h + 1) fullShare (G X c) := by
  rw [frS_val]; unfold dmaPay; rw [if_neg (by omega), if_pos (by omega), show 24 + h - 24 = h by omega]
theorem pay_bs (c : Dev nD) (h : ℕ) (hh : h < 15) : dmaPay X c (bsS h hh).val = slotPt c (bslot h) (shB h) (G X c) := by
  rw [bsS_val]; unfold dmaPay; rw [if_neg (by omega), if_neg (by omega), if_pos (by omega), show 40 + h - 40 = h by omega]
theorem pay_br (c : Dev nD) (h : ℕ) (hh : h < 15) : dmaPay X c (brS h hh).val = slotPt c (17 + h) fullShare (G X c) := by
  rw [brS_val]; unfold dmaPay; rw [if_neg (by omega), if_neg (by omega), if_neg (by omega), show 55 + h - 55 = h by omega]

/-! ## What each device owes, and the levels -/

/-- What c still owes nxt c's forward receive cells once it has started a forward copies; -/
def OF (c : Dev nD) (a : ℕ) : CellTallies nD τ sig Unit := ∑ h ∈ Finset.univ.filter (fun h : Fin 16 => a ≤ h.val), tallyAt (frC (nxt c) h.val h.isLt) () N
/-- prv c's backward ones once it has started b backward copies; -/
def OB (c : Dev nD) (b : ℕ) : CellTallies nD τ sig Unit := ∑ h ∈ Finset.univ.filter (fun h : Fin 15 => b ≤ h.val), tallyAt (brC (prv c) h.val h.isLt) () N
/-- both; -/
def OW (c : Dev nD) (a b : ℕ) : CellTallies nD τ sig Unit := OF c a + OB c b
/-- and at launch, the two barrier units too. -/
def O₀ (c : Dev nD) : CellTallies nD τ sig Unit := OW c 0 0 + tallyAt (barC (nxt c)) () 1 + tallyAt (barC (prv c)) () 1

theorem filter_step {n : ℕ} (a : ℕ) (ha : a < n) :
    Finset.univ.filter (fun h : Fin n => a ≤ h.val) = insert ⟨a, ha⟩ (Finset.univ.filter (fun h : Fin n => a + 1 ≤ h.val)) := by
  ext h
  simp only [Finset.mem_filter, Finset.mem_univ, true_and, Finset.mem_insert, Fin.ext_iff]
  omega
theorem filter_fresh {n : ℕ} (a : ℕ) (ha : a < n) : (⟨a, ha⟩ : Fin n) ∉ Finset.univ.filter (fun h : Fin n => a + 1 ≤ h.val) := by
  simp only [Finset.mem_filter, Finset.mem_univ, true_and]; omega

theorem OW_fwd (c : Dev nD) (a b : ℕ) (ha : a < 16) : OW c a b = OW c (a + 1) b + tallyAt (frC (nxt c) a ha) () N := by
  unfold OW OF
  rw [filter_step a ha, Finset.sum_insert (filter_fresh a ha), add_comm (tallyAt _ _ _), add_right_comm]
theorem OW_bwd (c : Dev nD) (a b : ℕ) (hb : b < 15) : OW c a b = OW c a (b + 1) + tallyAt (brC (prv c) b hb) () N := by
  unfold OW OB
  rw [filter_step b hb, Finset.sum_insert (filter_fresh b hb), add_comm (tallyAt _ _ _), add_assoc]
theorem OW_end (c : Dev nD) : OW c 16 15 = 0 := by
  unfold OW OF OB
  rw [Finset.filter_false_of_mem (fun h _ => by have := h.isLt; omega), Finset.filter_false_of_mem (fun h _ => by have := h.isLt; omega)]
  rw [Finset.sum_empty, Finset.sum_empty, add_zero]

def L (g : GSem nD τ sig) : Finset Unit := if g.1.2 = .tc then {()} else ∅
/-- The barrier at 1, the receive cells at 2 and up in the order of the hops, the rest at 0. -/
def lv (g : GSem nD τ sig) (_ : Unit) : ℕ := match g.2 with
  | .reg _ => 1
  | .dma s => if s.val < 24 then 0 else if s.val < 40 then 2 + (s.val - 24) else if s.val < 55 then 0 else 2 + (s.val - 55)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_fr (c : Dev nD) (h : ℕ) (hh : h < 16) : lv (frC c h hh) () = 2 + h := by
  show (if (frS h hh).val < 24 then 0 else if (frS h hh).val < 40 then 2 + ((frS h hh).val - 24) else _) = _
  rw [frS_val, if_neg (by omega), if_pos (by omega)]; omega
theorem lv_br (c : Dev nD) (h : ℕ) (hh : h < 15) : lv (brC c h hh) () = 2 + h := by
  show (if (brS h hh).val < 24 then 0 else if (brS h hh).val < 40 then 2 + ((brS h hh).val - 24) else if (brS h hh).val < 55 then 0 else 2 + ((brS h hh).val - 55)) = _
  rw [brS_val, if_neg (by omega), if_neg (by omega), if_neg (by omega)]; omega

theorem tallyAt_pos' {g g' : GSem nD τ sig} {u : Unit} {k : ℕ} (h : 0 < (tallyAt g () k : CellTallies nD τ sig Unit) g' u) : g' = g := by
  rw [tallyAt_apply] at h
  by_cases e : g' = g ∧ u = ()
  · exact e.1
  · rw [if_neg e] at h; exact absurd h (Nat.lt_irrefl 0)

theorem sum_pos' {ι : Type} [DecidableEq ι] (s : Finset ι) (gs : ι → GSem nD τ sig) {g : GSem nD τ sig} {u : Unit} {k : ℕ}
    (h : 0 < (∑ i ∈ s, (tallyAt (gs i) () k : CellTallies nD τ sig Unit)) g u) : ∃ i ∈ s, g = gs i := by
  induction s using Finset.induction_on with
  | empty => exact absurd h (Nat.lt_irrefl 0)
  | insert i s hi ih =>
    rw [Finset.sum_insert hi, Pi.add_apply, Finsupp.add_apply] at h
    rcases Nat.add_pos_iff_pos_or_pos.mp h with h | h
    · exact ⟨i, Finset.mem_insert_self _ _, tallyAt_pos' h⟩
    · obtain ⟨j, hj, e⟩ := ih h
      exact ⟨j, Finset.mem_insert_of_mem hj, e⟩

theorem OW_pos {c : Dev nD} {a b : ℕ} {g : GSem nD τ sig} {u : Unit} (h : 0 < OW c a b g u) :
    g.1.2 = .tc ∧ (2 + a ≤ lv g () ∨ 2 + b ≤ lv g ()) := by
  unfold OW at h
  rw [Pi.add_apply, Finsupp.add_apply] at h
  rcases Nat.add_pos_iff_pos_or_pos.mp h with h | h
  · obtain ⟨i, hi, rfl⟩ := sum_pos' _ _ h
    have := (Finset.mem_filter.mp hi).2
    exact ⟨rfl, .inl (by rw [lv_fr]; omega)⟩
  · obtain ⟨i, hi, rfl⟩ := sum_pos' _ _ h
    have := (Finset.mem_filter.mp hi).2
    exact ⟨rfl, .inr (by rw [lv_br]; omega)⟩

/-- A wait at a level below what is still owed. -/
theorem mayWait (c : Dev nD) (sm : SemLoc sig) (a b : ℕ) (ha : lv ((c : Thread nD τ), sm) () < 2 + a) (hb : lv ((c : Thread nD τ), sm) () < 2 + b) :
    (levAts L lv : sProp 𝕄) ⊢ MayWait (c : Thread nD τ) sm () (OW c a b) :=
  MayOwe.of_cut (L := L) (lev := lv) (lv ((c : Thread nD τ), sm) ())
    (fun p hp => by rw [Finset.mem_singleton.mp hp, L_tc]; exact Finset.mem_singleton_self _)
    (fun g u hg => by show u ∈ L g; unfold L; rw [if_pos (OW_pos hg).1]; exact Finset.mem_singleton_self _)
    (fun p hp => by rw [Finset.mem_singleton.mp hp])
    (fun g u hg => by
      rcases (OW_pos hg).2 with h | h
      · show _ < lv g (); omega
      · show _ < lv g (); omega)

end Cert.Proof

end
-- ==== Proof.Pools.lean ====
/-
  The device's state between two steps of the kernel's body, as four pools: the copies sent and the slots received, forward and
  backward.
-/
module

public import proofs.«01_k».proof.Proof.Common

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No variants: the program has no loop of its own. -/
abbrev 𝒱₀ : Variants := Variants.none

variable (X : Dev nD → Blk F) (K : GSem nD τ sig → ℕ)

/-! ## The invariants' names -/

/-- The kernel's own cells, of all devices. -/
@[irreducible] def cells : Finset (GSem nD τ sig) :=
  Finset.univ.biUnion fun c : Dev nD => insert (barC c) ((Finset.univ.filter fun s : DmaSem sig => 8 ≤ s.val).map ⟨fun s => ((c : Thread nD τ), SemLoc.dma s), fun _ _ h => by
    have := congrArg Prod.snd h; injection this⟩)

theorem mem_cells_bar (c : Dev nD) : barC c ∈ cells := by
  unfold cells; exact Finset.mem_biUnion.mpr ⟨c, Finset.mem_univ _, Finset.mem_insert_self _ _⟩
theorem mem_cells_dma (c : Dev nD) (s : DmaSem sig) (h : 8 ≤ s.val) : ((c : Thread nD τ), SemLoc.dma s) ∈ cells := by
  unfold cells; exact Finset.mem_biUnion.mpr ⟨c, Finset.mem_univ _, Finset.mem_insert_of_mem (Finset.mem_map.mpr ⟨s, Finset.mem_filter.mpr ⟨Finset.mem_univ _, h⟩, rfl⟩)⟩

/-- An assertion that holds the cells' invariants, at the names K. -/
structure Recs (I : sProp 𝕄) : Prop where
  bar : ∀ c : Dev nD, I ⊢ cellInv ER (Rd X) (K (barC c)) (barC c)
  dma : ∀ (c : Dev nD) (s : DmaSem sig), 8 ≤ s.val → I ⊢ cellInv ER (Rd X) (K ((c : Thread nD τ), .dma s)) ((c : Thread nD τ), .dma s)

/-- The cells' invariants together are one. -/
theorem recs_all : Recs X K (bigSep cells fun g => cellInv ER (Rd X) (K g) g) where
  bar c := bigSep_elim (Φ := fun g => cellInv ER (Rd X) (K g) g) (mem_cells_bar c)
  dma c s h := bigSep_elim (Φ := fun g => cellInv ER (Rd X) (K g) g) (mem_cells_dma c s h)

/-! ## Pools -/

/-- One item of a pool taken out, and put back changed. -/
theorem pool_step {n : ℕ} (i : Fin n) (Φ Ψ : Fin n → sProp 𝕄) (h : ∀ j, j ≠ i → Φ j = Ψ j) :
    bigSep Finset.univ Φ ⊢ iprop(Φ i ∗ (Ψ i -∗ bigSep Finset.univ Ψ)) := by
  have e (Θ : Fin n → sProp 𝕄) : bigSep Finset.univ Θ = iprop(Θ i ∗ bigSep (Finset.univ.erase i) Θ) := by
    conv_lhs => rw [← Finset.insert_erase (Finset.mem_univ i), bigSep_insert (Finset.notMem_erase _ _)]
    rfl
  rw [e Φ, e Ψ, bigSep_congr (fun j hj => h j (Finset.ne_of_mem_erase hj))]
  iintro ⟨H, Hr⟩
  isplitl [H]; · iexact H
  iintro H
  isplitl [H]; · iexact H
  iexact Hr

/-- What the forward copy h needs, before it starts. -/
def fwdCap (c : Dev nD) (h : ℕ) (hh : h < 16) : sProp 𝕄 :=
  iprop((∃ f : KV F (nxt c), slotPt (nxt c) (h + 1) fullShare f) ∗ dutyTok ER (frC (nxt c) h hh) 0 false ∗ reached ER (frC (nxt c) h hh) 0
    ∗ dutyTok ER (fsC c h hh) 0 false ∗ reached ER (fsC c h hh) 0 ∗ atPos ER (fsC c h hh) 0 ∅ 0)
def bwdCap (c : Dev nD) (h : ℕ) (hh : h < 15) : sProp 𝕄 :=
  iprop((∃ f : KV F (prv c), slotPt (prv c) (17 + h) fullShare f) ∗ dutyTok ER (brC (prv c) h hh) 0 false ∗ reached ER (brC (prv c) h hh) 0
    ∗ dutyTok ER (bsC c h hh) 0 false ∗ reached ER (bsC c h hh) 0 ∗ atPos ER (bsC c h hh) 0 ∅ 0)

/-- Forward copy h when a have started and the first w have been waited for on the sending side. -/
def fsI (c : Dev nD) (a w : ℕ) (h : Fin 16) : sProp 𝕄 :=
  if h.val < w then iprop(atPos ER (fsC c h.val h.isLt) 1 ∅ 0 ∗ slotPt c h.val (shF h.val) (G X c))
  else if h.val < a then iprop(cred (tallyAt (fsC c h.val h.isLt) () N) ∗ atPos ER (fsC c h.val h.isLt) 0 ∅ 0)
  else fwdCap c h.val h.isLt
def bsI (c : Dev nD) (b w : ℕ) (h : Fin 15) : sProp 𝕄 :=
  if h.val < w then iprop(atPos ER (bsC c h.val h.isLt) 1 ∅ 0 ∗ slotPt c (bslot h.val) (shB h.val) (G X c))
  else if h.val < b then iprop(cred (tallyAt (bsC c h.val h.isLt) () N) ∗ atPos ER (bsC c h.val h.isLt) 0 ∅ 0)
  else bwdCap c h.val h.isLt
/-- The forward receive cell h when the first w have been waited for. -/
def frI (c : Dev nD) (w : ℕ) (h : Fin 16) : sProp 𝕄 :=
  if h.val < w then iprop(atPos ER (frC c h.val h.isLt) 1 ∅ 0 ∗ slotPt c (h.val + 1) fullShare.left (G X c))
  else iprop(cred (tallyAt (frC c h.val h.isLt) () N) ∗ atPos ER (frC c h.val h.isLt) 0 ∅ 0)
def brI (c : Dev nD) (w : ℕ) (h : Fin 15) : sProp 𝕄 :=
  if h.val < w then iprop(atPos ER (brC c h.val h.isLt) 1 ∅ 0 ∗ slotPt c (17 + h.val) fullShare.left (G X c))
  else iprop(cred (tallyAt (brC c h.val h.isLt) () N) ∗ atPos ER (brC c h.val h.isLt) 0 ∅ 0)

@[irreducible] def FS (c : Dev nD) (a w : ℕ) : sProp 𝕄 := bigSep Finset.univ (fsI X c a w)
@[irreducible] def BS (c : Dev nD) (b w : ℕ) : sProp 𝕄 := bigSep Finset.univ (bsI X c b w)
@[irreducible] def FR (c : Dev nD) (w : ℕ) : sProp 𝕄 := bigSep Finset.univ (frI X c w)
@[irreducible] def BR (c : Dev nD) (w : ℕ) : sProp 𝕄 := bigSep Finset.univ (brI X c w)
/-- What is still owed. -/
def OWE (c : Dev nD) (a b : ℕ) : sProp 𝕄 := iprop(∃ W, owes (c : Thread nD τ) (OW c a b) W)

theorem FS_start (c : Dev nD) (a : ℕ) (ha : a < 16) :
    FS X c a 0 ⊢ iprop(fwdCap c a ha ∗ ((cred (tallyAt (fsC c a ha) () N) ∗ atPos ER (fsC c a ha) 0 ∅ 0) -∗ FS X c (a + 1) 0)) := by
  have h := pool_step (F := F) ⟨a, ha⟩ (fsI X c a 0) (fsI X c (a + 1) 0) (fun j hj => by
    have : j.val ≠ a := fun e => hj (Fin.ext e)
    unfold fsI; rw [if_neg (Nat.not_lt_zero _), if_neg (Nat.not_lt_zero _)]
    by_cases h : j.val < a
    · rw [if_pos h, if_pos (by omega)]
    · rw [if_neg h, if_neg (show ¬ j.val < a + 1 by omega)])
  have e1 : fsI X c a 0 ⟨a, ha⟩ = fwdCap c a ha := by unfold fsI; rw [if_neg (Nat.not_lt_zero _), if_neg (Nat.lt_irrefl _)]
  have e2 : fsI X c (a + 1) 0 ⟨a, ha⟩ = iprop(cred (tallyAt (fsC c a ha) () N) ∗ atPos ER (fsC c a ha) 0 ∅ 0) := by
    unfold fsI; rw [if_neg (Nat.not_lt_zero _), if_pos (Nat.lt_succ_self _)]
  rw [e1, e2] at h; unfold FS; exact h
theorem BS_start (c : Dev nD) (b : ℕ) (hb : b < 15) :
    BS X c b 0 ⊢ iprop(bwdCap c b hb ∗ ((cred (tallyAt (bsC c b hb) () N) ∗ atPos ER (bsC c b hb) 0 ∅ 0) -∗ BS X c (b + 1) 0)) := by
  have h := pool_step (F := F) ⟨b, hb⟩ (bsI X c b 0) (bsI X c (b + 1) 0) (fun j hj => by
    have : j.val ≠ b := fun e => hj (Fin.ext e)
    unfold bsI; rw [if_neg (Nat.not_lt_zero _), if_neg (Nat.not_lt_zero _)]
    by_cases h : j.val < b
    · rw [if_pos h, if_pos (by omega)]
    · rw [if_neg h, if_neg (show ¬ j.val < b + 1 by omega)])
  have e1 : bsI X c b 0 ⟨b, hb⟩ = bwdCap c b hb := by unfold bsI; rw [if_neg (Nat.not_lt_zero _), if_neg (Nat.lt_irrefl _)]
  have e2 : bsI X c (b + 1) 0 ⟨b, hb⟩ = iprop(cred (tallyAt (bsC c b hb) () N) ∗ atPos ER (bsC c b hb) 0 ∅ 0) := by
    unfold bsI; rw [if_neg (Nat.not_lt_zero _), if_pos (Nat.lt_succ_self _)]
  rw [e1, e2] at h; unfold BS; exact h
theorem FS_wait (c : Dev nD) (w : ℕ) (hw : w < 16) :
    FS X c 16 w ⊢ iprop((cred (tallyAt (fsC c w hw) () N) ∗ atPos ER (fsC c w hw) 0 ∅ 0)
      ∗ ((atPos ER (fsC c w hw) 1 ∅ 0 ∗ slotPt c w (shF w) (G X c)) -∗ FS X c 16 (w + 1))) := by
  have h := pool_step (F := F) ⟨w, hw⟩ (fsI X c 16 w) (fsI X c 16 (w + 1)) (fun j hj => by
    have : j.val ≠ w := fun e => hj (Fin.ext e)
    unfold fsI
    by_cases h : j.val < w
    · rw [if_pos h, if_pos (by omega)]
    · rw [if_neg h, if_neg (show ¬ j.val < w + 1 by omega)])
  have e1 : fsI X c 16 w ⟨w, hw⟩ = iprop(cred (tallyAt (fsC c w hw) () N) ∗ atPos ER (fsC c w hw) 0 ∅ 0) := by
    unfold fsI; rw [if_neg (Nat.lt_irrefl _), if_pos hw]
  have e2 : fsI X c 16 (w + 1) ⟨w, hw⟩ = iprop(atPos ER (fsC c w hw) 1 ∅ 0 ∗ slotPt c w (shF w) (G X c)) := by
    unfold fsI; rw [if_pos (Nat.lt_succ_self _)]
  rw [e1, e2] at h; unfold FS; exact h
theorem BS_wait (c : Dev nD) (w : ℕ) (hw : w < 15) :
    BS X c 15 w ⊢ iprop((cred (tallyAt (bsC c w hw) () N) ∗ atPos ER (bsC c w hw) 0 ∅ 0)
      ∗ ((atPos ER (bsC c w hw) 1 ∅ 0 ∗ slotPt c (bslot w) (shB w) (G X c)) -∗ BS X c 15 (w + 1))) := by
  have h := pool_step (F := F) ⟨w, hw⟩ (bsI X c 15 w) (bsI X c 15 (w + 1)) (fun j hj => by
    have : j.val ≠ w := fun e => hj (Fin.ext e)
    unfold bsI
    by_cases h : j.val < w
    · rw [if_pos h, if_pos (by omega)]
    · rw [if_neg h, if_neg (show ¬ j.val < w + 1 by omega)])
  have e1 : bsI X c 15 w ⟨w, hw⟩ = iprop(cred (tallyAt (bsC c w hw) () N) ∗ atPos ER (bsC c w hw) 0 ∅ 0) := by
    unfold bsI; rw [if_neg (Nat.lt_irrefl _), if_pos hw]
  have e2 : bsI X c 15 (w + 1) ⟨w, hw⟩ = iprop(atPos ER (bsC c w hw) 1 ∅ 0 ∗ slotPt c (bslot w) (shB w) (G X c)) := by
    unfold bsI; rw [if_pos (Nat.lt_succ_self _)]
  rw [e1, e2] at h; unfold BS; exact h
theorem FR_wait (c : Dev nD) (w : ℕ) (hw : w < 16) :
    FR X c w ⊢ iprop((cred (tallyAt (frC c w hw) () N) ∗ atPos ER (frC c w hw) 0 ∅ 0)
      ∗ ((atPos ER (frC c w hw) 1 ∅ 0 ∗ slotPt c (w + 1) fullShare.left (G X c)) -∗ FR X c (w + 1))) := by
  have h := pool_step (F := F) ⟨w, hw⟩ (frI X c w) (frI X c (w + 1)) (fun j hj => by
    have : j.val ≠ w := fun e => hj (Fin.ext e)
    unfold frI
    by_cases h : j.val < w
    · rw [if_pos h, if_pos (by omega)]
    · rw [if_neg h, if_neg (show ¬ j.val < w + 1 by omega)])
  have e1 : frI X c w ⟨w, hw⟩ = iprop(cred (tallyAt (frC c w hw) () N) ∗ atPos ER (frC c w hw) 0 ∅ 0) := by
    unfold frI; rw [if_neg (Nat.lt_irrefl _)]
  have e2 : frI X c (w + 1) ⟨w, hw⟩ = iprop(atPos ER (frC c w hw) 1 ∅ 0 ∗ slotPt c (w + 1) fullShare.left (G X c)) := by
    unfold frI; rw [if_pos (Nat.lt_succ_self _)]
  rw [e1, e2] at h; unfold FR; exact h
theorem BR_wait (c : Dev nD) (w : ℕ) (hw : w < 15) :
    BR X c w ⊢ iprop((cred (tallyAt (brC c w hw) () N) ∗ atPos ER (brC c w hw) 0 ∅ 0)
      ∗ ((atPos ER (brC c w hw) 1 ∅ 0 ∗ slotPt c (17 + w) fullShare.left (G X c)) -∗ BR X c (w + 1))) := by
  have h := pool_step (F := F) ⟨w, hw⟩ (brI X c w) (brI X c (w + 1)) (fun j hj => by
    have : j.val ≠ w := fun e => hj (Fin.ext e)
    unfold brI
    by_cases h : j.val < w
    · rw [if_pos h, if_pos (by omega)]
    · rw [if_neg h, if_neg (show ¬ j.val < w + 1 by omega)])
  have e1 : brI X c w ⟨w, hw⟩ = iprop(cred (tallyAt (brC c w hw) () N) ∗ atPos ER (brC c w hw) 0 ∅ 0) := by
    unfold brI; rw [if_neg (Nat.lt_irrefl _)]
  have e2 : brI X c (w + 1) ⟨w, hw⟩ = iprop(atPos ER (brC c w hw) 1 ∅ 0 ∗ slotPt c (17 + w) fullShare.left (G X c)) := by
    unfold brI; rw [if_pos (Nat.lt_succ_self _)]
  rw [e1, e2] at h; unfold BR; exact h

/-! ## The steps -/

/-- A slot's share as the two halves. -/
theorem slot_halves (c : Dev nD) (k : ℕ) (q : PosShare TreeShare) (f : KV F c) :
    (slotPt c k q f : sProp 𝕄) ⊣⊢ iprop(slotPt c k q.left f ∗ slotPt c k q.right f) :=
  pointsTo_share (PosShare.mem_left_op_right q)

end Cert.Proof

end
-- ==== Proof.Steps.lean ====
/-
  One lemma per kind of step of the kernel's body: start a copy, wait a receive semaphore, wait a send semaphore.
-/
module

public import proofs.«01_k».proof.Proof.Pools

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : GSem nD τ sig → ℕ)

theorem lv_fs (c : Dev nD) (h : ℕ) (hh : h < 16) : lv (fsC c h hh) () = 0 := by
  show (if (fsS h hh).val < 24 then 0 else _) = _
  rw [fsS_val, if_pos (by omega)]
theorem lv_bs (c : Dev nD) (h : ℕ) (hh : h < 15) : lv (bsC c h hh) () = 0 := by
  show (if (bsS h hh).val < 24 then 0 else if (bsS h hh).val < 40 then 2 + ((bsS h hh).val - 24) else if (bsS h hh).val < 55 then 0 else _) = _
  rw [bsS_val, if_neg (by omega), if_neg (by omega), if_pos (by omega)]

/-- What the forward copy's two ends hand over, -/
theorem sendPay_fs (c : Dev nD) (k : ℕ) (hh : k < 16) (hk : k < 32) :
    ((slotM k hk).view.loc (c : Thread nD τ) ↦[(slotM k hk).view.set]{shF k} G X c : sProp 𝕄) ⊢ (Rd X).payload (fsC c k hh) 0 false := by
  rw [slotM_set]; exact Entails.of_eq (pay_fs X c k hh).symm
theorem sendPay_fr (c : Dev nD) (k : ℕ) (hh : k < 16) (hk : k < 32) (hk' : k + 1 < 32) (fd : KV F (nxt c)) :
    ((slotM (k + 1) hk').view.loc (nxt c : Thread nD τ) ↦[(slotM (k + 1) hk').view.set]{fullShare}
        ((slotM (k + 1) hk').view.write (Elt F) fd ((slotM k hk).view.read (Elt F) (G X c)) Finset.univ) : sProp 𝕄)
      ⊢ (Rd X).payload (frC (nxt c) k hh) 0 false := by
  refine (Entails.of_eq (pointsTo_congr (landed_eq X c (nxt c) k (k + 1) hk hk' (src_fwd c hh) fd))).trans ?_
  rw [slotM_set]; exact Entails.of_eq (pay_fr X (nxt c) k hh).symm
/-- and the backward copy's. -/
theorem sendPay_bs (c : Dev nD) (b : ℕ) (hh : b < 15) (k : ℕ) (ek : k = bslot b) (hk : k < 32) :
    ((slotM k hk).view.loc (c : Thread nD τ) ↦[(slotM k hk).view.set]{shB b} G X c : sProp 𝕄) ⊢ (Rd X).payload (bsC c b hh) 0 false := by
  subst ek; rw [slotM_set]; exact Entails.of_eq (pay_bs X c b hh).symm
theorem sendPay_br (c : Dev nD) (b : ℕ) (hh : b < 15) (k : ℕ) (ek : k = bslot b) (hk : k < 32) (hk' : 17 + b < 32) (fd : KV F (prv c)) :
    ((slotM (17 + b) hk').view.loc (prv c : Thread nD τ) ↦[(slotM (17 + b) hk').view.set]{fullShare}
        ((slotM (17 + b) hk').view.write (Elt F) fd ((slotM k hk).view.read (Elt F) (G X c)) Finset.univ) : sProp 𝕄)
      ⊢ (Rd X).payload (brC (prv c) b hh) 0 false := by
  refine (Entails.of_eq (pointsTo_congr (landed_eq X c (prv c) k (17 + b) hk hk' ((src_bwd c hh).trans (by rw [ek])) fd))).trans ?_
  rw [slotM_set]; exact Entails.of_eq (pay_br X (prv c) b hh).symm
theorem duty_mem (c : Dev nD) (s : DmaSem sig) : false ∈ (Rd (F := F) X).duties ((c : Thread nD τ), .dma s) 0 := by
  rw [duties_dma]; exact Finset.mem_singleton_self _

section Step

variable {α : Type} {Q : α → sProp (MT nD τ sig Unit (Elt F) ℕ UU ℕ)} {kk : PUnit → Prog (TpuEff nD τ sig (Elt F) Λ₀ .tc) α}

/-- The transfer itself, from slot k to slot k' of the device n. -/
theorem wp_send_raw (c n : Dev nD) (k k' : ℕ) (hk : k < 32) (hk' : k' < 32) (sS rS : DmaSem sig) (q : PosShare TreeShare)
    {hsc : (slotM k' hk' : Memref sig (Dev.tc n : Thread nD τ).2.kind .vmem S2x2x4x256x64 .bf16).view.ref.isScScratch = false}
    {hsrc : (slotM k hk).view.WordExact} {hdst : (slotM k' hk').view.WordExact}
    {hsem : DmaTarget.Typed .vmem (.dma rS) (.remote (Dev.tc n : Thread nD τ) (slotM k' hk' : Memref sig .tc .vmem S2x2x4x256x64 .bf16) (.dma sS) hsc)}
    (fs : Buf (Elt F) ((slotM k hk).view.loc (c : Thread nD τ))) (fd : Buf (Elt F) ((slotM k' hk').view.loc (n : Thread nD τ)))
    (O₁ O : CellTallies nD τ sig Unit) (hO : O₁ = O + tallyAt ((n : Thread nD τ), .dma rS) () N) (W : Waits sig Unit)
    (hpay₁ : ((slotM k hk).view.loc (c : Thread nD τ) ↦[(slotM k hk).view.set]{q} fs : sProp 𝕄) ⊢ (Rd X).payload ((c : Thread nD τ), .dma sS) 0 false)
    (hpay₂ : ((slotM k' hk').view.loc (n : Thread nD τ) ↦[(slotM k' hk').view.set]{fullShare}
        ((slotM k' hk').view.write (Elt F) fd ((slotM k hk).view.read (Elt F) fs) Finset.univ) : sProp 𝕄) ⊢ (Rd X).payload ((n : Thread nD τ), .dma rS) 0 false) :
    iprop(cellInv ER (Rd X) (K ((c : Thread nD τ), .dma sS)) ((c : Thread nD τ), .dma sS) ∗ cellInv ER (Rd X) (K ((n : Thread nD τ), .dma rS)) ((n : Thread nD τ), .dma rS)
        ∗ ((slotM k hk).view.loc (c : Thread nD τ) ↦[(slotM k hk).view.set]{q} fs) ∗ ((slotM k' hk').view.loc (n : Thread nD τ) ↦[(slotM k' hk').view.set]{fullShare} fd)
        ∗ owes (c : Thread nD τ) O₁ W
        ∗ dutyTok ER ((c : Thread nD τ), .dma sS) 0 false ∗ reached ER ((c : Thread nD τ), .dma sS) 0
        ∗ dutyTok ER ((n : Thread nD τ), .dma rS) 0 false ∗ reached ER ((n : Thread nD τ), .dma rS) 0)
      ⊢ iprop(((cred (tallyAt ((c : Thread nD τ), .dma sS) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM k hk) (.remote (Dev.tc n : Thread nD τ) (slotM k' hk') (.dma sS) hsc) (.dma rS) hsrc hdst hsem) kk) Q) := by
  exact Rounds.wp_send_pointsTo 𝒱₀ ER (Rd X) (c : Thread nD τ) none (κ₁ := K ((c : Thread nD τ), .dma sS)) (κ₂ := K ((n : Thread nD τ), .dma rS))
    (r₁ := 0) (r₂ := 0) (d₁ := false) (d₂ := false) (fd := fd)
    (duty_mem X c sS) (duty_mem X n rS) () () N (slot_credit k' hk') rfl rfl O hO (W := W) hpay₁ hpay₂

/-- A wait on one of the device's copy semaphores, for its one copy. -/
theorem wp_wait_dma {I : sProp 𝕄} [BI.Persistent I] (hI : Recs X K I) (c : Dev nD) (s : DmaSem sig) (hs : 8 ≤ s.val) (a b : ℕ)
    (ha : lv ((c : Thread nD τ), .dma s) () < 2 + a) (hb : lv ((c : Thread nD τ), .dma s) () < 2 + b)
    (k k' : ℕ) (hk : k < 32) (hk' : k' < 32) {hw : (slotM k hk).view.WordExact} {hw' : (slotM k' hk').view.WordExact} :
    iprop(I ∗ levAts L lv ∗ (cred (tallyAt ((c : Thread nD τ), .dma s) () N) ∗ atPos ER ((c : Thread nD τ), .dma s) 0 ∅ 0) ∗ OWE c a b)
      ⊢ iprop(((atPos ER ((c : Thread nD τ), .dma s) 1 ∅ 0 ∗ dmaPay X c s.val ∗ OWE c a b)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s (slotM k hk) (slotM k' hk') hw hw') kk) Q) := by
  unfold OWE
  iintro ⟨#HI, #Hlev, ⟨Hc, Hat⟩, ⟨%W, HO⟩⟩
  iintro Hk
  iapply (Rounds.wp_wait_rest_token 𝒱₀ ER (Rd X) (c : Thread nD τ) none (κ := K ((c : Thread nD τ), .dma s))
      (wpE_waitDma2_eq 𝒱₀ (c : Thread nD τ) none Set.univ) (Set.mem_univ _) () (O := OW c a b) (W := W) (R := 0) (m := 0) (T := ∅)
      (by rw [Nat.zero_add, expect_dma]; exact slot_credit k' hk')) $$ [Hc HO Hat]
  · isplitr; · iapply (hI.dma c s hs); iexact HI
    isplitl [Hc]; · iexact Hc
    isplitl [HO]; · iexact HO
    isplitr; · iapply (mayWait c (.dma s) a b ha hb); iexact Hlev
    iexact Hat
  iintro ⟨HO, Hat, -, Hpay⟩
  ihave Hp := (Entails.of_eq (rest_dma X c s)) $$ Hpay
  iapply Hk
  isplitl [Hat]; · iexact Hat
  isplitl [Hp]; · iexact Hp
  iexists _; iexact HO

/-- The wait for the forward copy landing in slot w+1: the slot comes in, half to keep and half to lend. -/
theorem wp_wait_fr {I : sProp 𝕄} [BI.Persistent I] (hI : Recs X K I) (c : Dev nD) (w a b : ℕ) (hw : w < 16) (ha : w < a) (hb : w < b)
    (k k' : ℕ) (hk : k < 32) (hk' : k' < 32) {hx : (slotM k hk).view.WordExact} {hx' : (slotM k' hk').view.WordExact} :
    iprop(I ∗ levAts L lv ∗ FR X c w ∗ OWE c a b)
      ⊢ iprop(((FR X c (w + 1) ∗ slotPt c (w + 1) fullShare.right (G X c) ∗ OWE c a b)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (frS w hw) (slotM k hk) (slotM k' hk') hx hx') kk) Q) := by
  iintro ⟨#HI, #Hlev, HFR, HO⟩
  iintro Hk
  ihave H := (FR_wait X c w hw) $$ HFR
  icases H with ⟨H, Hback⟩
  iapply (wp_wait_dma X K hI c (frS w hw) (by rw [frS_val w hw]; omega) a b (by rw [lv_fr c w hw]; omega) (by rw [lv_fr c w hw]; omega) k k' hk hk') $$ [H HO]
  · isplitr; · iexact HI
    isplitr; · iexact Hlev
    isplitl [H]; · iexact H
    iexact HO
  iintro ⟨Hat, Hp, HO⟩
  ihave Hp := (Entails.of_eq (pay_fr X c w hw)) $$ Hp
  ihave Hp2 := (slot_halves c (w + 1) fullShare (G X c)).1 $$ Hp
  icases Hp2 with ⟨Hl, Hr⟩
  iapply Hk
  isplitl [Hat Hl Hback]
  · iapply Hback
    isplitl [Hat]; · iexact Hat
    iexact Hl
  isplitl [Hr]; · iexact Hr
  iexact HO

theorem wp_wait_br {I : sProp 𝕄} [BI.Persistent I] (hI : Recs X K I) (c : Dev nD) (w a b : ℕ) (hw : w < 15) (ha : w < a) (hb : w < b)
    (k k' : ℕ) (hk : k < 32) (hk' : k' < 32) {hx : (slotM k hk).view.WordExact} {hx' : (slotM k' hk').view.WordExact} :
    iprop(I ∗ levAts L lv ∗ BR X c w ∗ OWE c a b)
      ⊢ iprop(((BR X c (w + 1) ∗ slotPt c (17 + w) fullShare.right (G X c) ∗ OWE c a b)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (brS w hw) (slotM k hk) (slotM k' hk') hx hx') kk) Q) := by
  iintro ⟨#HI, #Hlev, HBR, HO⟩
  iintro Hk
  ihave H := (BR_wait X c w hw) $$ HBR
  icases H with ⟨H, Hback⟩
  iapply (wp_wait_dma X K hI c (brS w hw) (by rw [brS_val w hw]; omega) a b (by rw [lv_br c w hw]; omega) (by rw [lv_br c w hw]; omega) k k' hk hk') $$ [H HO]
  · isplitr; · iexact HI
    isplitr; · iexact Hlev
    isplitl [H]; · iexact H
    iexact HO
  iintro ⟨Hat, Hp, HO⟩
  ihave Hp := (Entails.of_eq (pay_br X c w hw)) $$ Hp
  ihave Hp2 := (slot_halves c (17 + w) fullShare (G X c)).1 $$ Hp
  icases Hp2 with ⟨Hl, Hr⟩
  iapply Hk
  isplitl [Hat Hl Hback]
  · iapply Hback
    isplitl [Hat]; · iexact Hat
    iexact Hl
  isplitl [Hr]; · iexact Hr
  iexact HO

/-- The wait for a forward copy's read-out: the lent share of its slot comes back. -/
theorem wp_wait_fs {I : sProp 𝕄} [BI.Persistent I] (hI : Recs X K I) (c : Dev nD) (w : ℕ) (hw : w < 16)
    (k k' : ℕ) (hk : k < 32) (hk' : k' < 32) {hx : (slotM k hk).view.WordExact} {hx' : (slotM k' hk').view.WordExact} :
    iprop(I ∗ levAts L lv ∗ FS X c 16 w ∗ OWE c 16 15)
      ⊢ iprop(((FS X c 16 (w + 1) ∗ OWE c 16 15) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (fsS w hw) (slotM k hk) (slotM k' hk') hx hx') kk) Q) := by
  iintro ⟨#HI, #Hlev, HFS, HO⟩
  iintro Hk
  ihave H := (FS_wait X c w hw) $$ HFS
  icases H with ⟨H, Hback⟩
  iapply (wp_wait_dma X K hI c (fsS w hw) (by rw [fsS_val w hw]; omega) 16 15 (by rw [lv_fs c w hw]; omega) (by rw [lv_fs c w hw]; omega) k k' hk hk') $$ [H HO]
  · isplitr; · iexact HI
    isplitr; · iexact Hlev
    isplitl [H]; · iexact H
    iexact HO
  iintro ⟨Hat, Hp, HO⟩
  ihave Hp := (Entails.of_eq (pay_fs X c w hw)) $$ Hp
  iapply Hk
  isplitl [Hat Hp Hback]
  · iapply Hback
    isplitl [Hat]; · iexact Hat
    iexact Hp
  iexact HO

theorem wp_wait_bs {I : sProp 𝕄} [BI.Persistent I] (hI : Recs X K I) (c : Dev nD) (w : ℕ) (hw : w < 15)
    (k k' : ℕ) (hk : k < 32) (hk' : k' < 32) {hx : (slotM k hk).view.WordExact} {hx' : (slotM k' hk').view.WordExact} :
    iprop(I ∗ levAts L lv ∗ BS X c 15 w ∗ OWE c 16 15)
      ⊢ iprop(((BS X c 15 (w + 1) ∗ OWE c 16 15) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (bsS w hw) (slotM k hk) (slotM k' hk') hx hx') kk) Q) := by
  iintro ⟨#HI, #Hlev, HBS, HO⟩
  iintro Hk
  ihave H := (BS_wait X c w hw) $$ HBS
  icases H with ⟨H, Hback⟩
  iapply (wp_wait_dma X K hI c (bsS w hw) (by rw [bsS_val w hw]; omega) 16 15 (by rw [lv_bs c w hw]; omega) (by rw [lv_bs c w hw]; omega) k k' hk hk') $$ [H HO]
  · isplitr; · iexact HI
    isplitr; · iexact Hlev
    isplitl [H]; · iexact H
    iexact HO
  iintro ⟨Hat, Hp, HO⟩
  ihave Hp := (Entails.of_eq (pay_bs X c w hw)) $$ Hp
  iapply Hk
  isplitl [Hat Hp Hback]
  · iapply Hback
    isplitl [Hat]; · iexact Hat
    iexact Hp
  iexact HO

/-- The forward copy a: slot a's share lent, slot a+1 of the right neighbour handed to the landing. -/
theorem wp_send_f {I : sProp 𝕄} [BI.Persistent I] (hI : Recs X K I) (c n : Dev nD) (hn : n = nxt c) (a b k k' : ℕ) (ha : a < 16) (ek : k = a) (ek' : k' = a + 1) (hk : k < 32) (hk' : k' < 32)
    {hsc : (slotM k' hk' : Memref sig (Dev.tc n : Thread nD τ).2.kind .vmem S2x2x4x256x64 .bf16).view.ref.isScScratch = false}
    {hsrc : (slotM k hk).view.WordExact} {hdst : (slotM k' hk').view.WordExact}
    {hsem : DmaTarget.Typed .vmem (.dma (frS a ha)) (.remote (Dev.tc n : Thread nD τ) (slotM k' hk' : Memref sig .tc .vmem S2x2x4x256x64 .bf16) (.dma (fsS a ha)) hsc)} :
    iprop(I ∗ FS X c a 0 ∗ slotPt c a (shF a) (G X c) ∗ OWE c a b)
      ⊢ iprop(((FS X c (a + 1) 0 ∗ OWE c (a + 1) b) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM k hk) (.remote (Dev.tc n : Thread nD τ) (slotM k' hk') (.dma (fsS a ha)) hsc) (.dma (frS a ha)) hsrc hdst hsem) kk) Q) := by
  subst hn; subst ek; subst ek'
  unfold OWE
  iintro ⟨#HI, HFS, Hs, ⟨%W, HO⟩⟩
  iintro Hk
  ihave H := (FS_start X c k ha) $$ HFS
  unfold fwdCap
  icases H with ⟨⟨⟨%fd, Hd⟩, HtR, #HrR, HtS, #HrS, Hat⟩, Hback⟩
  ihave Hs' := (Entails.of_eq (show (slotPt c k (shF k) (G X c) : sProp 𝕄) = ((slotM k hk).view.loc (c : Thread nD τ) ↦[(slotM k hk).view.set]{shF k} G X c) by
    rw [slotM_set])) $$ Hs
  ihave Hd' := (Entails.of_eq (show (slotPt (nxt c) (k + 1) fullShare fd : sProp 𝕄)
      = ((slotM (k + 1) hk').view.loc (nxt c : Thread nD τ) ↦[(slotM (k + 1) hk').view.set]{fullShare} fd) by rw [slotM_set])) $$ Hd
  iapply (wp_send_raw X K c (nxt c) k (k + 1) hk hk' (fsS k ha) (frS k ha) (shF k) (G X c) fd (OW c k b) (OW c (k + 1) b) (OW_fwd c k b ha) W
    (sendPay_fs X c k ha hk) (sendPay_fr X c k ha hk hk' fd)) $$ [Hs' Hd' HO HtS HtR]
  · isplitr; · iapply (hI.dma c (fsS k ha) (by rw [fsS_val k ha]; omega)); iexact HI
    isplitr; · iapply (hI.dma (nxt c) (frS k ha) (by rw [frS_val k ha]; omega)); iexact HI
    isplitl [Hs']; · iexact Hs'
    isplitl [Hd']; · iexact Hd'
    isplitl [HO]; · iexact HO
    isplitl [HtS]; · iexact HtS
    isplitr; · iexact HrS
    isplitl [HtR]; · iexact HtR
    iexact HrR
  iintro ⟨Hc, HO⟩
  iapply Hk
  isplitl [Hc Hat Hback]
  · iapply Hback
    isplitl [Hc]; · iexact Hc
    iexact Hat
  iexists W; iexact HO

/-- The backward copy b. -/
theorem wp_send_b {I : sProp 𝕄} [BI.Persistent I] (hI : Recs X K I) (c n : Dev nD) (hn : n = prv c) (a b k k' : ℕ) (hb : b < 15) (ek : k = bslot b) (ek' : k' = 17 + b) (hk : k < 32) (hk' : k' < 32)
    {hsc : (slotM k' hk' : Memref sig (Dev.tc n : Thread nD τ).2.kind .vmem S2x2x4x256x64 .bf16).view.ref.isScScratch = false}
    {hsrc : (slotM k hk).view.WordExact} {hdst : (slotM k' hk').view.WordExact}
    {hsem : DmaTarget.Typed .vmem (.dma (brS b hb)) (.remote (Dev.tc n : Thread nD τ) (slotM k' hk' : Memref sig .tc .vmem S2x2x4x256x64 .bf16) (.dma (bsS b hb)) hsc)} :
    iprop(I ∗ BS X c b 0 ∗ slotPt c k (shB b) (G X c) ∗ OWE c a b)
      ⊢ iprop(((BS X c (b + 1) 0 ∗ OWE c a (b + 1)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM k hk) (.remote (Dev.tc n : Thread nD τ) (slotM k' hk') (.dma (bsS b hb)) hsc) (.dma (brS b hb)) hsrc hdst hsem) kk) Q) := by
  subst hn; subst ek'
  unfold OWE
  iintro ⟨#HI, HBS, Hs, ⟨%W, HO⟩⟩
  iintro Hk
  ihave H := (BS_start X c b hb) $$ HBS
  unfold bwdCap
  icases H with ⟨⟨⟨%fd, Hd⟩, HtR, #HrR, HtS, #HrS, Hat⟩, Hback⟩
  ihave Hs' := (Entails.of_eq (show (slotPt c k (shB b) (G X c) : sProp 𝕄) = ((slotM k hk).view.loc (c : Thread nD τ) ↦[(slotM k hk).view.set]{shB b} G X c) by
    rw [slotM_set])) $$ Hs
  ihave Hd' := (Entails.of_eq (show (slotPt (prv c) (17 + b) fullShare fd : sProp 𝕄)
      = ((slotM (17 + b) hk').view.loc (prv c : Thread nD τ) ↦[(slotM (17 + b) hk').view.set]{fullShare} fd) by rw [slotM_set])) $$ Hd
  iapply (wp_send_raw X K c (prv c) k (17 + b) hk hk' (bsS b hb) (brS b hb) (shB b) (G X c) fd (OW c a b) (OW c a (b + 1)) (OW_bwd c a b hb) W
    (sendPay_bs X c b hb k ek hk) (sendPay_br X c b hb k ek hk hk' fd)) $$ [Hs' Hd' HO HtS HtR]
  · isplitr; · iapply (hI.dma c (bsS b hb) (by rw [bsS_val b hb]; omega)); iexact HI
    isplitr; · iapply (hI.dma (prv c) (brS b hb) (by rw [brS_val b hb]; omega)); iexact HI
    isplitl [Hs']; · iexact Hs'
    isplitl [Hd']; · iexact Hd'
    isplitl [HO]; · iexact HO
    isplitl [HtS]; · iexact HtS
    isplitr; · iexact HrS
    isplitl [HtR]; · iexact HtR
    iexact HrR
  iintro ⟨Hc, HO⟩
  iapply Hk
  isplitl [Hc Hat Hback]
  · iapply Hback
    isplitl [Hc]; · iexact Hc
    iexact Hat
  iexists W; iexact HO

end Step

end Cert.Proof

end
-- ==== Proof.Hops.lean ====
/-
  The middle of the kernel: blocks passed on, hop by hop; at the end the waits for the read-outs. One lemma per printed part.
-/
module

public import proofs.«01_k».proof.Proof.Steps

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : GSem nD τ sig → ℕ)

/-- The words the host writes: the right neighbour's number, and the left one's. -/
def nw (c : Dev nD) : BitVec 32 := BitVec.ofNat 32 (nxt c).val
def pw (c : Dev nD) : BitVec 32 := BitVec.ofNat 32 (prv c).val

theorem dev_nw (c : Dev nD) : k0_dev2 (nw c) = (nxt c).val := by revert c; decide
theorem dev_pw (c : Dev nD) : k0_dev1 (pw c) = (prv c).val := by revert c; decide

/-- A received slot's second half is what the next copy is lent. -/
theorem lend_f (c : Dev nD) (a : ℕ) (h : 0 < a) : (slotPt c a fullShare.right (G X c) : sProp 𝕄) ⊢ slotPt c a (shF a) (G X c) := by
  unfold shF; rw [if_neg (by omega)]
theorem lend_b (c : Dev nD) (k b : ℕ) (h : 0 < b) : (slotPt c k fullShare.right (G X c) : sProp 𝕄) ⊢ slotPt c k (shB b) (G X c) := by
  unfold shB; rw [if_neg (by omega)]

/-- Once all has been sent nothing is owed. -/
theorem OWE_end (c : Dev nD) : (OWE c 16 15 : sProp 𝕄) = OWE c 16 16 := by
  unfold OWE
  rw [show OW c 16 16 = OW c 16 15 by
    unfold OW OB
    rw [Finset.filter_false_of_mem (fun h _ => by have := h.isLt; omega), Finset.filter_false_of_mem (fun h _ => by have := h.isLt; omega)]]

/-- The device's state while it passes blocks on: a forward and b backward copies started, wf and wb slots received. -/
def ST (c : Dev nD) (a b wf wb : ℕ) : sProp 𝕄 := iprop(FS X c a 0 ∗ BS X c b 0 ∗ FR X c wf ∗ BR X c wb ∗ OWE c a b)

section Hops

variable {I : sProp (MT nD τ sig Unit (Elt F) ℕ UU ℕ)} [BI.Persistent I] (hI : Recs X K I) (c : Dev nD)
include hI

theorem hop3 (v41 : FVec F S512x512 .bf16) (v43 : FVec F S512x256 .bf16) {Q : (FVec F S8x256x64 .bf16) → sProp 𝕄} :
    iprop(I ∗ levAts L lv ∗ (ST X c 1 1 0 0))
      ⊢ iprop(((ST X c 1 1 1 0 ∗ slotPt c 1 fullShare.right (G X c)) -∗ Q (k0_pay5 v41 v43)) -∗ wp frame (wpE (defs₀ (F := F)) 𝒱₀ (c : Thread nD τ) none) Set.univ
          (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) v41 v43) Q) := by
  rw [k0_part3_eq_skeleton]; unfold k0_part3_skel
  simp only [Prog.lift, Prog.bind_op, Prog.bind_ret, Prog.pure_eq_ret]
  unfold ST
  iintro ⟨#HI, #Hlev, ⟨HFS, HBS, HFR, HBR, HO⟩⟩
  iintro Hk
  iapply (wp_wait_fr X K hI c 0 1 1 (by decide) (by decide) (by decide) 0 1 (by decide) (by decide)) $$ [HFR HO]
  · isplitr; · iexact HI
    isplitr; · iexact Hlev
    isplitl [HFR]; · iexact HFR
    iexact HO
  iintro ⟨HFR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop4 (k0_hw2 : k0_chk2 (nw c))  (k0_hw1 : k0_chk1 (pw c)) {Q : (Σ' (v87 : BitVec 32), BitVec 32) → sProp 𝕄} :
    iprop(I ∗ levAts L lv ∗ (ST X c 1 1 1 0 ∗ slotPt c 1 fullShare.right (G X c)))
      ⊢ iprop(((ST X c 2 2 1 1) -∗ Q ⟨(Scalar.muli (nw c) 1#32), 0#32⟩) -∗ wp frame (wpE (defs₀ (F := F)) 𝒱₀ (c : Thread nD τ) none) Set.univ
          (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c) k0_hw1) Q) := by
  rw [k0_part4_eq_skeleton]; unfold k0_part4_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_f X c 1 (by decide)) $$ Hsl
  iapply (wp_send_f X K hI c _ (Fin.ext (dev_nw c)) 1 1 1 2 (by decide) rfl rfl (by decide) (by decide)) $$ [HFS Hsl HO]
  · isplitr; · iexact HI
    isplitl [HFS]; · iexact HFS
    isplitl [Hsl]; · iexact Hsl
    iexact HO
  iintro ⟨HFS, HO⟩
  iapply (wp_wait_br X K hI c 0 2 1 (by decide) (by decide) (by decide) 0 17 (by decide) (by decide)) $$ [HBR HO]
  · isplitr; · iexact HI
    isplitr; · iexact Hlev
    isplitl [HBR]; · iexact HBR
    iexact HO
  iintro ⟨HBR, Hsl, HO⟩
  ihave Hsl := (lend_b X c 17 1 (by decide)) $$ Hsl
  iapply (wp_send_b X K hI c _ (Fin.ext (dev_pw c)) 2 1 17 18 (by decide) (by decide) rfl (by decide) (by decide)) $$ [HBS Hsl HO]
  · isplitr; · iexact HI
    isplitl [HBS]; · iexact HBS
    isplitl [Hsl]; · iexact Hsl
    iexact HO
  iintro ⟨HBS, HO⟩
  rw [wp_ret]; imodintro
  iapply Hk
  isplitl [HFS]; · iexact HFS
  isplitl [HBS]; · iexact HBS
  isplitl [HFR]; · iexact HFR
  isplitl [HBR]; · iexact HBR
  iexact HO

theorem hop5 (k0_hw2 : k0_chk2 (nw c))  (v87 : BitVec 32) (c0_i32_129 : BitVec 32) {Q : (PUnit) → sProp 𝕄} :
    iprop(I ∗ levAts L lv ∗ (ST X c 2 2 1 1))
      ⊢ iprop(((ST X c 3 2 2 1) -∗ Q ⟨⟩) -∗ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c) v87 c0_i32_129) Q) := by
  rw [k0_part5_eq_skeleton]; unfold k0_part5_skel
  simp only [Prog.lift, Prog.bind_op, Prog.bind_ret, Prog.pure_eq_ret]
  unfold ST
  iintro ⟨#HI, #Hlev, ⟨HFS, HBS, HFR, HBR, HO⟩⟩
  iintro Hk
  iapply (wp_wait_fr X K hI c 1 2 2 (by decide) (by decide) (by decide) 1 2 (by decide) (by decide)) $$ [HFR HO]
  · isplitr; · iexact HI
    isplitr; · iexact Hlev
    isplitl [HFR]; · iexact HFR
    iexact HO
  iintro ⟨HFR, Hsl, HO⟩
  ihave Hsl := (lend_f X c 2 (by decide)) $$ Hsl
  iapply (wp_send_f X K hI c _ (Fin.ext (dev_nw c)) 2 2 2 3 (by decide) rfl rfl (by decide) (by decide)) $$ [HFS Hsl HO]
  · isplitr; · iexact HI
    isplitl [HFS]; · iexact HFS
    isplitl [Hsl]; · iexact Hsl
    iexact HO
  iintro ⟨HFS, HO⟩
  rw [wp_ret]; imodintro
  iapply Hk
  isplitl [HFS]; · iexact HFS
  isplitl [HBS]; · iexact HBS
  isplitl [HFR]; · iexact HFR
  isplitl [HBR]; · iexact HBR
  iexact HO

theorem hop6 (k0_hw1 : k0_chk1 (pw c)) {Q : (PUnit) → sProp 𝕄} :
    iprop(I ∗ levAts L lv ∗ (ST X c 3 2 2 1))
      ⊢ iprop(((ST X c 3 3 2 2) -∗ Q ⟨⟩) -∗ wp frame (wpE (defs₀ (F := F)) 𝒱₀ (c : Thread nD τ) none) Set.univ
          (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1) Q) := by
  rw [k0_part6_eq_skeleton]; unfold k0_part6_skel
  simp only [Prog.lift, Prog.bind_op, Prog.bind_ret, Prog.pure_eq_ret]
  unfold ST
  iintro ⟨#HI, #Hlev, ⟨HFS, HBS, HFR, HBR, HO⟩⟩
  iintro Hk
  iapply (wp_wait_br X K hI c 1 3 2 (by decide) (by decide) (by decide) 17 18 (by decide) (by decide)) $$ [HBR HO]
  · isplitr; · iexact HI
    isplitr; · iexact Hlev
    isplitl [HBR]; · iexact HBR
    iexact HO
  iintro ⟨HBR, Hsl, HO⟩
  ihave Hsl := (lend_b X c 18 2 (by decide)) $$ Hsl
  iapply (wp_send_b X K hI c _ (Fin.ext (dev_pw c)) 3 2 18 19 (by decide) (by decide) rfl (by decide) (by decide)) $$ [HBS Hsl HO]
  · isplitr; · iexact HI
    isplitl [HBS]; · iexact HBS
    isplitl [Hsl]; · iexact Hsl
    iexact HO
  iintro ⟨HBS, HO⟩
  rw [wp_ret]; imodintro
  iapply Hk
  isplitl [HFS]; · iexact HFS
  isplitl [HBS]; · iexact HBS
  isplitl [HFR]; · iexact HFR
  isplitl [HBR]; · iexact HBR
  iexact HO

theorem hop7 (k0_hw2 : k0_chk2 (nw c)) {Q : (BitVec 32) → sProp 𝕄} :
    iprop(I ∗ levAts L lv ∗ (ST X c 3 3 2 2))
      ⊢ iprop(((ST X c 4 3 3 3 ∗ slotPt c 19 fullShare.right (G X c)) -∗ Q (Scalar.muli (pw c) 1#32)) -∗ wp frame (wpE (defs₀ (F := F)) 𝒱₀ (c : Thread nD τ) none) Set.univ
          (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c)) Q) := by
  rw [k0_part7_eq_skeleton]; unfold k0_part7_skel
  simp only [Prog.lift, Prog.bind_op, Prog.bind_ret, Prog.pure_eq_ret]
  unfold ST
  iintro ⟨#HI, #Hlev, ⟨HFS, HBS, HFR, HBR, HO⟩⟩
  iintro Hk
  iapply (wp_wait_fr X K hI c 2 3 3 (by decide) (by decide) (by decide) 2 3 (by decide) (by decide)) $$ [HFR HO]
  · isplitr; · iexact HI
    isplitr; · iexact Hlev
    isplitl [HFR]; · iexact HFR
    iexact HO
  iintro ⟨HFR, Hsl, HO⟩
  ihave Hsl := (lend_f X c 3 (by decide)) $$ Hsl
  iapply (wp_send_f X K hI c _ (Fin.ext (dev_nw c)) 3 3 3 4 (by decide) rfl rfl (by decide) (by decide)) $$ [HFS Hsl HO]
  · isplitr; · iexact HI
    isplitl [HFS]; · iexact HFS
    isplitl [Hsl]; · iexact Hsl
    iexact HO
  iintro ⟨HFS, HO⟩
  iapply (wp_wait_br X K hI c 2 4 3 (by decide) (by decide) (by decide) 18 19 (by decide) (by decide)) $$ [HBR HO]
  · isplitr; · iexact HI
    isplitr; · iexact Hlev
    isplitl [HBR]; · iexact HBR
    iexact HO
  iintro ⟨HBR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop8 (k0_hw1 : k0_chk1 (pw c)) (v149 : BitVec 32) {Q : (PUnit) → sProp 𝕄} :
    iprop(I ∗ levAts L lv ∗ (ST X c 4 3 3 3 ∗ slotPt c 19 fullShare.right (G X c)))
      ⊢ iprop(((ST X c 4 4 4 3 ∗ slotPt c 4 fullShare.right (G X c)) -∗ Q ⟨⟩) -∗ wp frame (wpE (defs₀ (F := F)) 𝒱₀ (c : Thread nD τ) none) Set.univ
          (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1 v149) Q) := by
  rw [k0_part8_eq_skeleton]; unfold k0_part8_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_b X c 19 3 (by decide)) $$ Hsl
  iapply (wp_send_b X K hI c _ (Fin.ext (dev_pw c)) 4 3 19 20 (by decide) (by decide) rfl (by decide) (by decide)) $$ [HBS Hsl HO]
  · isplitr; · iexact HI
    isplitl [HBS]; · iexact HBS
    isplitl [Hsl]; · iexact Hsl
    iexact HO
  iintro ⟨HBS, HO⟩
  iapply (wp_wait_fr X K hI c 3 4 4 (by decide) (by decide) (by decide) 3 4 (by decide) (by decide)) $$ [HFR HO]
  · isplitr; · iexact HI
    isplitr; · iexact Hlev
    isplitl [HFR]; · iexact HFR
    iexact HO
  iintro ⟨HFR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop9 (k0_hw2 : k0_chk2 (nw c)) {Q : (PUnit) → sProp 𝕄} :
    iprop(I ∗ levAts L lv ∗ (ST X c 4 4 4 3 ∗ slotPt c 4 fullShare.right (G X c)))
      ⊢ iprop(((ST X c 5 4 4 4 ∗ slotPt c 20 fullShare.right (G X c)) -∗ Q ⟨⟩) -∗ wp frame (wpE (defs₀ (F := F)) 𝒱₀ (c : Thread nD τ) none) Set.univ
          (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c)) Q) := by
  rw [k0_part9_eq_skeleton]; unfold k0_part9_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_f X c 4 (by decide)) $$ Hsl
  iapply (wp_send_f X K hI c _ (Fin.ext (dev_nw c)) 4 4 4 5 (by decide) rfl rfl (by decide) (by decide)) $$ [HFS Hsl HO]
  · isplitr; · iexact HI
    isplitl [HFS]; · iexact HFS
    isplitl [Hsl]; · iexact Hsl
    iexact HO
  iintro ⟨HFS, HO⟩
  iapply (wp_wait_br X K hI c 3 5 4 (by decide) (by decide) (by decide) 19 20 (by decide) (by decide)) $$ [HBR HO]
  · isplitr; · iexact HI
    isplitr; · iexact Hlev
    isplitl [HBR]; · iexact HBR
    iexact HO
  iintro ⟨HBR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop10 (k0_hw2 : k0_chk2 (nw c))  (k0_hw1 : k0_chk1 (pw c)) {Q : (PUnit) → sProp 𝕄} :
    iprop(I ∗ levAts L lv ∗ (ST X c 5 4 4 4 ∗ slotPt c 20 fullShare.right (G X c)))
      ⊢ iprop(((ST X c 6 5 5 4) -∗ Q ⟨⟩) -∗ wp frame (wpE (defs₀ (F := F)) 𝒱₀ (c : Thread nD τ) none) Set.univ
          (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c) k0_hw1) Q) := by
  rw [k0_part10_eq_skeleton]; unfold k0_part10_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_b X c 20 4 (by decide)) $$ Hsl
  iapply (wp_send_b X K hI c _ (Fin.ext (dev_pw c)) 5 4 20 21 (by decide) (by decide) rfl (by decide) (by decide)) $$ [HBS Hsl HO]
  · isplitr; · iexact HI
    isplitl [HBS]; · iexact HBS
    isplitl [Hsl]; · iexact Hsl
    iexact HO
  iintro ⟨HBS, HO⟩
  iapply (wp_wait_fr X K hI c 4 5 5 (by decide) (by decide) (by decide) 4 5 (by decide) (by decide)) $$ [HFR HO]
  · isplitr; · iexact HI
    isplitr; · iexact Hlev
    isplitl [HFR]; · iexact HFR
    iexact HO
  iintro ⟨HFR, Hsl, HO⟩
  ihave Hsl := (lend_f X c 5 (by decide)) $$ Hsl
  iapply (wp_send_f X K hI c _ (Fin.ext (dev_nw c)) 5 5 5 6 (by decide) rfl rfl (by decide) (by decide)) $$ [HFS Hsl HO]
  · isplitr; · iexact HI
    isplitl [HFS]; · iexact HFS
    isplitl [Hsl]; · iexact Hsl
    iexact HO
  iintro ⟨HFS, HO⟩
  rw [wp_ret]; imodintro
  iapply Hk
  isplitl [HFS]; · iexact HFS
  isplitl [HBS]; · iexact HBS
  isplitl [HFR]; · iexact HFR
  isplitl [HBR]; · iexact HBR
  iexact HO

theorem hop11 (k0_hw1 : k0_chk1 (pw c)) {Q : (PUnit) → sProp 𝕄} :
    iprop(I ∗ levAts L lv ∗ (ST X c 6 5 5 4))
      ⊢ iprop(((ST X c 6 6 5 5) -∗ Q ⟨⟩) -∗ wp frame (wpE (defs₀ (F := F)) 𝒱₀ (c : Thread nD τ) none) Set.univ
          (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1) Q) := by
  rw [k0_part11_eq_skeleton]; unfold k0_part11_skel
  simp only [Prog.lift, Prog.bind_op, Prog.bind_ret, Prog.pure_eq_ret]
  unfold ST
  iintro ⟨#HI, #Hlev, ⟨HFS, HBS, HFR, HBR, HO⟩⟩
  iintro Hk
  iapply (wp_wait_br X K hI c 4 6 5 (by decide) (by decide) (by decide) 20 21 (by decide) (by decide)) $$ [HBR HO]
  · isplitr; · iexact HI
    isplitr; · iexact Hlev
    isplitl [HBR]; · iexact HBR
    iexact HO
  iintro ⟨HBR, Hsl, HO⟩
  ihave Hsl := (lend_b X c 21 5 (by decide)) $$ Hsl
  iapply (wp_send_b X K hI c _ (Fin.ext (dev_pw c)) 6 5 21 22 (by decide) (by decide) rfl (by decide) (by decide)) $$ [HBS Hsl HO]
  · isplitr; · iexact HI
    isplitl [HBS]; · iexact HBS
    isplitl [Hsl]; · iexact Hsl
    iexact HO
  iintro ⟨HBS, HO⟩
  rw [wp_ret]; imodintro
  iapply Hk
  isplitl [HFS]; · iexact HFS
  isplitl [HBS]; · iexact HBS
  isplitl [HFR]; · iexact HFR
  isplitl [HBR]; · iexact HBR
  iexact HO

theorem hop12 (k0_hw2 : k0_chk2 (nw c)) {Q : (PUnit) → sProp 𝕄} :
    iprop(I ∗ levAts L lv ∗ (ST X c 6 6 5 5))
      ⊢ iprop(((ST X c 7 6 6 5) -∗ Q ⟨⟩) -∗ wp frame (wpE (defs₀ (F := F)) 𝒱₀ (c : Thread nD τ) none) Set.univ
          (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c)) Q) := by
  rw [k0_part12_eq_skeleton]; unfold k0_part12_skel
  simp only [Prog.lift, Prog.bind_op, Prog.bind_ret, Prog.pure_eq_ret]
  unfold ST
  iintro ⟨#HI, #Hlev, ⟨HFS, HBS, HFR, HBR, HO⟩⟩
  iintro Hk
  iapply (wp_wait_fr X K hI c 5 6 6 (by decide) (by decide) (by decide) 5 6 (by decide) (by decide)) $$ [HFR HO]
  · isplitr; · iexact HI
    isplitr; · iexact Hlev
    isplitl [HFR]; · iexact HFR
    iexact HO
  iintro ⟨HFR, Hsl, HO⟩
  ihave Hsl := (lend_f X c 6 (by decide)) $$ Hsl
  iapply (wp_send_f X K hI c _ (Fin.ext (dev_nw c)) 6 6 6 7 (by decide) rfl rfl (by decide) (by decide)) $$ [HFS Hsl HO]
  · isplitr; · iexact HI
    isplitl [HFS]; · iexact HFS
    isplitl [Hsl]; · iexact Hsl
    iexact HO
  iintro ⟨HFS, HO⟩
  rw [wp_ret]; imodintro
  iapply Hk
  isplitl [HFS]; · iexact HFS
  isplitl [HBS]; · iexact HBS
  isplitl [HFR]; · iexact HFR
  isplitl [HBR]; · iexact HBR
  iexact HO

theorem hop13 (k0_hw1 : k0_chk1 (pw c)) {Q : (PUnit) → sProp 𝕄} :
    iprop(I ∗ levAts L lv ∗ (ST X c 7 6 6 5))
      ⊢ iprop(((ST X c 7 7 7 6 ∗ slotPt c 7 fullShare.right (G X c)) -∗ Q ⟨⟩) -∗ wp frame (wpE (defs₀ (F := F)) 𝒱₀ (c : Thread nD τ) none) Set.univ
          (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1) Q) := by
  rw [k0_part13_eq_skeleton]; unfold k0_part13_skel
  simp only [Prog.lift, Prog.bind_op, Prog.bind_ret, Prog.pure_eq_ret]
  unfold ST
  iintro ⟨#HI, #Hlev, ⟨HFS, HBS, HFR, HBR, HO⟩⟩
  iintro Hk
  iapply (wp_wait_br X K hI c 5 7 6 (by decide) (by decide) (by decide) 21 22 (by decide) (by decide)) $$ [HBR HO]
  · isplitr; · iexact HI
    isplitr; · iexact Hlev
    isplitl [HBR]; · iexact HBR
    iexact HO
  iintro ⟨HBR, Hsl, HO⟩
  ihave Hsl := (lend_b X c 22 6 (by decide)) $$ Hsl
  iapply (wp_send_b X K hI c _ (Fin.ext (dev_pw c)) 7 6 22 23 (by decide) (by decide) rfl (by decide) (by decide)) $$ [HBS Hsl HO]
  · isplitr; · iexact HI
    isplitl [HBS]; · iexact HBS
    isplitl [Hsl]; · iexact Hsl
    iexact HO
  iintro ⟨HBS, HO⟩
  iapply (wp_wait_fr X K hI c 6 7 7 (by decide) (by decide) (by decide) 6 7 (by decide) (by decide)) $$ [HFR HO]
  · isplitr; · iexact HI
    isplitr; · iexact Hlev
    isplitl [HFR]; · iexact HFR
    iexact HO
  iintro ⟨HFR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop14 (k0_hw2 : k0_chk2 (nw c)) {Q : (PUnit) → sProp 𝕄} :
    iprop(I ∗ levAts L lv ∗ (ST X c 7 7 7 6 ∗ slotPt c 7 fullShare.right (G X c)))
      ⊢ iprop(((ST X c 8 7 7 7 ∗ slotPt c 23 fullShare.right (G X c)) -∗ Q ⟨⟩) -∗ wp frame (wpE (defs₀ (F := F)) 𝒱₀ (c : Thread nD τ) none) Set.univ
          (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c)) Q) := by
  rw [k0_part14_eq_skeleton]; unfold k0_part14_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_f X c 7 (by decide)) $$ Hsl
  iapply (wp_send_f X K hI c _ (Fin.ext (dev_nw c)) 7 7 7 8 (by decide) rfl rfl (by decide) (by decide)) $$ [HFS Hsl HO]
  · isplitr; · iexact HI
    isplitl [HFS]; · iexact HFS
    isplitl [Hsl]; · iexact Hsl
    iexact HO
  iintro ⟨HFS, HO⟩
  iapply (wp_wait_br X K hI c 6 8 7 (by decide) (by decide) (by decide) 22 23 (by decide) (by decide)) $$ [HBR HO]
  · isplitr; · iexact HI
    isplitr; · iexact Hlev
    isplitl [HBR]; · iexact HBR
    iexact HO
  iintro ⟨HBR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop15 (k0_hw1 : k0_chk1 (pw c)) {Q : (PUnit) → sProp 𝕄} :
    iprop(I ∗ levAts L lv ∗ (ST X c 8 7 7 7 ∗ slotPt c 23 fullShare.right (G X c)))
      ⊢ iprop(((ST X c 8 8 8 7 ∗ slotPt c 8 fullShare.right (G X c)) -∗ Q ⟨⟩) -∗ wp frame (wpE (defs₀ (F := F)) 𝒱₀ (c : Thread nD τ) none) Set.univ
          (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1) Q) := by
  rw [k0_part15_eq_skeleton]; unfold k0_part15_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_b X c 23 7 (by decide)) $$ Hsl
  iapply (wp_send_b X K hI c _ (Fin.ext (dev_pw c)) 8 7 23 24 (by decide) (by decide) rfl (by decide) (by decide)) $$ [HBS Hsl HO]
  · isplitr; · iexact HI
    isplitl [HBS]; · iexact HBS
    isplitl [Hsl]; · iexact Hsl
    iexact HO
  iintro ⟨HBS, HO⟩
  iapply (wp_wait_fr X K hI c 7 8 8 (by decide) (by decide) (by decide) 7 8 (by decide) (by decide)) $$ [HFR HO]
  · isplitr; · iexact HI
    isplitr; · iexact Hlev
    isplitl [HFR]; · iexact HFR
    iexact HO
  iintro ⟨HFR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop16 (k0_hw2 : k0_chk2 (nw c)) {Q : (PUnit) → sProp 𝕄} :
    iprop(I ∗ levAts L lv ∗ (ST X c 8 8 8 7 ∗ slotPt c 8 fullShare.right (G X c)))
      ⊢ iprop(((ST X c 9 8 8 8 ∗ slotPt c 24 fullShare.right (G X c)) -∗ Q ⟨⟩) -∗ wp frame (wpE (defs₀ (F := F)) 𝒱₀ (c : Thread nD τ) none) Set.univ
          (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c)) Q) := by
  rw [k0_part16_eq_skeleton]; unfold k0_part16_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_f X c 8 (by decide)) $$ Hsl
  iapply (wp_send_f X K hI c _ (Fin.ext (dev_nw c)) 8 8 8 9 (by decide) rfl rfl (by decide) (by decide)) $$ [HFS Hsl HO]
  · isplitr; · iexact HI
    isplitl [HFS]; · iexact HFS
    isplitl [Hsl]; · iexact Hsl
    iexact HO
  iintro ⟨HFS, HO⟩
  iapply (wp_wait_br X K hI c 7 9 8 (by decide) (by decide) (by decide) 23 24 (by decide) (by decide)) $$ [HBR HO]
  · isplitr; · iexact HI
    isplitr; · iexact Hlev
    isplitl [HBR]; · iexact HBR
    iexact HO
  iintro ⟨HBR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop17 (k0_hw2 : k0_chk2 (nw c))  (k0_hw1 : k0_chk1 (pw c)) {Q : (Σ' (v357 : BitVec 32), BitVec 32) → sProp 𝕄} :
    iprop(I ∗ levAts L lv ∗ (ST X c 9 8 8 8 ∗ slotPt c 24 fullShare.right (G X c)))
      ⊢ iprop(((ST X c 10 9 9 8) -∗ Q ⟨(Scalar.muli (pw c) 1#32), 0#32⟩) -∗ wp frame (wpE (defs₀ (F := F)) 𝒱₀ (c : Thread nD τ) none) Set.univ
          (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c) k0_hw1) Q) := by
  rw [k0_part17_eq_skeleton]; unfold k0_part17_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_b X c 24 8 (by decide)) $$ Hsl
  iapply (wp_send_b X K hI c _ (Fin.ext (dev_pw c)) 9 8 24 25 (by decide) (by decide) rfl (by decide) (by decide)) $$ [HBS Hsl HO]
  · isplitr; · iexact HI
    isplitl [HBS]; · iexact HBS
    isplitl [Hsl]; · iexact Hsl
    iexact HO
  iintro ⟨HBS, HO⟩
  iapply (wp_wait_fr X K hI c 8 9 9 (by decide) (by decide) (by decide) 8 9 (by decide) (by decide)) $$ [HFR HO]
  · isplitr; · iexact HI
    isplitr; · iexact Hlev
    isplitl [HFR]; · iexact HFR
    iexact HO
  iintro ⟨HFR, Hsl, HO⟩
  ihave Hsl := (lend_f X c 9 (by decide)) $$ Hsl
  iapply (wp_send_f X K hI c _ (Fin.ext (dev_nw c)) 9 9 9 10 (by decide) rfl rfl (by decide) (by decide)) $$ [HFS Hsl HO]
  · isplitr; · iexact HI
    isplitl [HFS]; · iexact HFS
    isplitl [Hsl]; · iexact Hsl
    iexact HO
  iintro ⟨HFS, HO⟩
  rw [wp_ret]; imodintro
  iapply Hk
  isplitl [HFS]; · iexact HFS
  isplitl [HBS]; · iexact HBS
  isplitl [HFR]; · iexact HFR
  isplitl [HBR]; · iexact HBR
  iexact HO

theorem hop18 (k0_hw1 : k0_chk1 (pw c)) (v357 : BitVec 32) (c0_i32_594 : BitVec 32) {Q : (PUnit) → sProp 𝕄} :
    iprop(I ∗ levAts L lv ∗ (ST X c 10 9 9 8))
      ⊢ iprop(((ST X c 10 10 9 9) -∗ Q ⟨⟩) -∗ wp frame (wpE (defs₀ (F := F)) 𝒱₀ (c : Thread nD τ) none) Set.univ
          (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1 v357 c0_i32_594) Q) := by
  rw [k0_part18_eq_skeleton]; unfold k0_part18_skel
  simp only [Prog.lift, Prog.bind_op, Prog.bind_ret, Prog.pure_eq_ret]
  unfold ST
  iintro ⟨#HI, #Hlev, ⟨HFS, HBS, HFR, HBR, HO⟩⟩
  iintro Hk
  iapply (wp_wait_br X K hI c 8 10 9 (by decide) (by decide) (by decide) 24 25 (by decide) (by decide)) $$ [HBR HO]
  · isplitr; · iexact HI
    isplitr; · iexact Hlev
    isplitl [HBR]; · iexact HBR
    iexact HO
  iintro ⟨HBR, Hsl, HO⟩
  ihave Hsl := (lend_b X c 25 9 (by decide)) $$ Hsl
  iapply (wp_send_b X K hI c _ (Fin.ext (dev_pw c)) 10 9 25 26 (by decide) (by decide) rfl (by decide) (by decide)) $$ [HBS Hsl HO]
  · isplitr; · iexact HI
    isplitl [HBS]; · iexact HBS
    isplitl [Hsl]; · iexact Hsl
    iexact HO
  iintro ⟨HBS, HO⟩
  rw [wp_ret]; imodintro
  iapply Hk
  isplitl [HFS]; · iexact HFS
  isplitl [HBS]; · iexact HBS
  isplitl [HFR]; · iexact HFR
  isplitl [HBR]; · iexact HBR
  iexact HO

theorem hop19 (k0_hw2 : k0_chk2 (nw c)) {Q : (PUnit) → sProp 𝕄} :
    iprop(I ∗ levAts L lv ∗ (ST X c 10 10 9 9))
      ⊢ iprop(((ST X c 11 10 10 9) -∗ Q ⟨⟩) -∗ wp frame (wpE (defs₀ (F := F)) 𝒱₀ (c : Thread nD τ) none) Set.univ
          (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c)) Q) := by
  rw [k0_part19_eq_skeleton]; unfold k0_part19_skel
  simp only [Prog.lift, Prog.bind_op, Prog.bind_ret, Prog.pure_eq_ret]
  unfold ST
  iintro ⟨#HI, #Hlev, ⟨HFS, HBS, HFR, HBR, HO⟩⟩
  iintro Hk
  iapply (wp_wait_fr X K hI c 9 10 10 (by decide) (by decide) (by decide) 9 10 (by decide) (by decide)) $$ [HFR HO]
  · isplitr; · iexact HI
    isplitr; · iexact Hlev
    isplitl [HFR]; · iexact HFR
    iexact HO
  iintro ⟨HFR, Hsl, HO⟩
  ihave Hsl := (lend_f X c 10 (by decide)) $$ Hsl
  iapply (wp_send_f X K hI c _ (Fin.ext (dev_nw c)) 10 10 10 11 (by decide) rfl rfl (by decide) (by decide)) $$ [HFS Hsl HO]
  · isplitr; · iexact HI
    isplitl [HFS]; · iexact HFS
    isplitl [Hsl]; · iexact Hsl
    iexact HO
  iintro ⟨HFS, HO⟩
  rw [wp_ret]; imodintro
  iapply Hk
  isplitl [HFS]; · iexact HFS
  isplitl [HBS]; · iexact HBS
  isplitl [HFR]; · iexact HFR
  isplitl [HBR]; · iexact HBR
  iexact HO

theorem hop20 (k0_hw1 : k0_chk1 (pw c)) {Q : (BitVec 32) → sProp 𝕄} :
    iprop(I ∗ levAts L lv ∗ (ST X c 11 10 10 9))
      ⊢ iprop(((ST X c 11 11 11 10 ∗ slotPt c 11 fullShare.right (G X c)) -∗ Q (Scalar.muli (nw c) 1#32)) -∗ wp frame (wpE (defs₀ (F := F)) 𝒱₀ (c : Thread nD τ) none) Set.univ
          (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1) Q) := by
  rw [k0_part20_eq_skeleton]; unfold k0_part20_skel
  simp only [Prog.lift, Prog.bind_op, Prog.bind_ret, Prog.pure_eq_ret]
  unfold ST
  iintro ⟨#HI, #Hlev, ⟨HFS, HBS, HFR, HBR, HO⟩⟩
  iintro Hk
  iapply (wp_wait_br X K hI c 9 11 10 (by decide) (by decide) (by decide) 25 26 (by decide) (by decide)) $$ [HBR HO]
  · isplitr; · iexact HI
    isplitr; · iexact Hlev
    isplitl [HBR]; · iexact HBR
    iexact HO
  iintro ⟨HBR, Hsl, HO⟩
  ihave Hsl := (lend_b X c 26 10 (by decide)) $$ Hsl
  iapply (wp_send_b X K hI c _ (Fin.ext (dev_pw c)) 11 10 26 27 (by decide) (by decide) rfl (by decide) (by decide)) $$ [HBS Hsl HO]
  · isplitr; · iexact HI
    isplitl [HBS]; · iexact HBS
    isplitl [Hsl]; · iexact Hsl
    iexact HO
  iintro ⟨HBS, HO⟩
  iapply (wp_wait_fr X K hI c 10 11 11 (by decide) (by decide) (by decide) 10 11 (by decide) (by decide)) $$ [HFR HO]
  · isplitr; · iexact HI
    isplitr; · iexact Hlev
    isplitl [HFR]; · iexact HFR
    iexact HO
  iintro ⟨HFR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop21 (k0_hw2 : k0_chk2 (nw c))  (v419 : BitVec 32) {Q : (PUnit) → sProp 𝕄} :
    iprop(I ∗ levAts L lv ∗ (ST X c 11 11 11 10 ∗ slotPt c 11 fullShare.right (G X c)))
      ⊢ iprop(((ST X c 12 11 11 11 ∗ slotPt c 27 fullShare.right (G X c)) -∗ Q ⟨⟩) -∗ wp frame (wpE (defs₀ (F := F)) 𝒱₀ (c : Thread nD τ) none) Set.univ
          (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c) v419) Q) := by
  rw [k0_part21_eq_skeleton]; unfold k0_part21_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_f X c 11 (by decide)) $$ Hsl
  iapply (wp_send_f X K hI c _ (Fin.ext (dev_nw c)) 11 11 11 12 (by decide) rfl rfl (by decide) (by decide)) $$ [HFS Hsl HO]
  · isplitr; · iexact HI
    isplitl [HFS]; · iexact HFS
    isplitl [Hsl]; · iexact Hsl
    iexact HO
  iintro ⟨HFS, HO⟩
  iapply (wp_wait_br X K hI c 10 12 11 (by decide) (by decide) (by decide) 26 27 (by decide) (by decide)) $$ [HBR HO]
  · isplitr; · iexact HI
    isplitr; · iexact Hlev
    isplitl [HBR]; · iexact HBR
    iexact HO
  iintro ⟨HBR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop22 (k0_hw1 : k0_chk1 (pw c)) {Q : (PUnit) → sProp 𝕄} :
    iprop(I ∗ levAts L lv ∗ (ST X c 12 11 11 11 ∗ slotPt c 27 fullShare.right (G X c)))
      ⊢ iprop(((ST X c 12 12 12 11 ∗ slotPt c 12 fullShare.right (G X c)) -∗ Q ⟨⟩) -∗ wp frame (wpE (defs₀ (F := F)) 𝒱₀ (c : Thread nD τ) none) Set.univ
          (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1) Q) := by
  rw [k0_part22_eq_skeleton]; unfold k0_part22_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_b X c 27 11 (by decide)) $$ Hsl
  iapply (wp_send_b X K hI c _ (Fin.ext (dev_pw c)) 12 11 27 28 (by decide) (by decide) rfl (by decide) (by decide)) $$ [HBS Hsl HO]
  · isplitr; · iexact HI
    isplitl [HBS]; · iexact HBS
    isplitl [Hsl]; · iexact Hsl
    iexact HO
  iintro ⟨HBS, HO⟩
  iapply (wp_wait_fr X K hI c 11 12 12 (by decide) (by decide) (by decide) 11 12 (by decide) (by decide)) $$ [HFR HO]
  · isplitr; · iexact HI
    isplitr; · iexact Hlev
    isplitl [HFR]; · iexact HFR
    iexact HO
  iintro ⟨HFR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop23 (k0_hw2 : k0_chk2 (nw c))  (k0_hw1 : k0_chk1 (pw c)) {Q : (PUnit) → sProp 𝕄} :
    iprop(I ∗ levAts L lv ∗ (ST X c 12 12 12 11 ∗ slotPt c 12 fullShare.right (G X c)))
      ⊢ iprop(((ST X c 13 13 12 12) -∗ Q ⟨⟩) -∗ wp frame (wpE (defs₀ (F := F)) 𝒱₀ (c : Thread nD τ) none) Set.univ
          (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c) k0_hw1) Q) := by
  rw [k0_part23_eq_skeleton]; unfold k0_part23_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_f X c 12 (by decide)) $$ Hsl
  iapply (wp_send_f X K hI c _ (Fin.ext (dev_nw c)) 12 12 12 13 (by decide) rfl rfl (by decide) (by decide)) $$ [HFS Hsl HO]
  · isplitr; · iexact HI
    isplitl [HFS]; · iexact HFS
    isplitl [Hsl]; · iexact Hsl
    iexact HO
  iintro ⟨HFS, HO⟩
  iapply (wp_wait_br X K hI c 11 13 12 (by decide) (by decide) (by decide) 27 28 (by decide) (by decide)) $$ [HBR HO]
  · isplitr; · iexact HI
    isplitr; · iexact Hlev
    isplitl [HBR]; · iexact HBR
    iexact HO
  iintro ⟨HBR, Hsl, HO⟩
  ihave Hsl := (lend_b X c 28 12 (by decide)) $$ Hsl
  iapply (wp_send_b X K hI c _ (Fin.ext (dev_pw c)) 13 12 28 29 (by decide) (by decide) rfl (by decide) (by decide)) $$ [HBS Hsl HO]
  · isplitr; · iexact HI
    isplitl [HBS]; · iexact HBS
    isplitl [Hsl]; · iexact Hsl
    iexact HO
  iintro ⟨HBS, HO⟩
  rw [wp_ret]; imodintro
  iapply Hk
  isplitl [HFS]; · iexact HFS
  isplitl [HBS]; · iexact HBS
  isplitl [HFR]; · iexact HFR
  isplitl [HBR]; · iexact HBR
  iexact HO

theorem hop24 (k0_hw2 : k0_chk2 (nw c)) {Q : (PUnit) → sProp 𝕄} :
    iprop(I ∗ levAts L lv ∗ (ST X c 13 13 12 12))
      ⊢ iprop(((ST X c 14 13 13 12) -∗ Q ⟨⟩) -∗ wp frame (wpE (defs₀ (F := F)) 𝒱₀ (c : Thread nD τ) none) Set.univ
          (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c)) Q) := by
  rw [k0_part24_eq_skeleton]; unfold k0_part24_skel
  simp only [Prog.lift, Prog.bind_op, Prog.bind_ret, Prog.pure_eq_ret]
  unfold ST
  iintro ⟨#HI, #Hlev, ⟨HFS, HBS, HFR, HBR, HO⟩⟩
  iintro Hk
  iapply (wp_wait_fr X K hI c 12 13 13 (by decide) (by decide) (by decide) 12 13 (by decide) (by decide)) $$ [HFR HO]
  · isplitr; · iexact HI
    isplitr; · iexact Hlev
    isplitl [HFR]; · iexact HFR
    iexact HO
  iintro ⟨HFR, Hsl, HO⟩
  ihave Hsl := (lend_f X c 13 (by decide)) $$ Hsl
  iapply (wp_send_f X K hI c _ (Fin.ext (dev_nw c)) 13 13 13 14 (by decide) rfl rfl (by decide) (by decide)) $$ [HFS Hsl HO]
  · isplitr; · iexact HI
    isplitl [HFS]; · iexact HFS
    isplitl [Hsl]; · iexact Hsl
    iexact HO
  iintro ⟨HFS, HO⟩
  rw [wp_ret]; imodintro
  iapply Hk
  isplitl [HFS]; · iexact HFS
  isplitl [HBS]; · iexact HBS
  isplitl [HFR]; · iexact HFR
  isplitl [HBR]; · iexact HBR
  iexact HO

theorem hop25 (k0_hw1 : k0_chk1 (pw c)) {Q : (PUnit) → sProp 𝕄} :
    iprop(I ∗ levAts L lv ∗ (ST X c 14 13 13 12))
      ⊢ iprop(((ST X c 14 14 13 13) -∗ Q ⟨⟩) -∗ wp frame (wpE (defs₀ (F := F)) 𝒱₀ (c : Thread nD τ) none) Set.univ
          (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1) Q) := by
  rw [k0_part25_eq_skeleton]; unfold k0_part25_skel
  simp only [Prog.lift, Prog.bind_op, Prog.bind_ret, Prog.pure_eq_ret]
  unfold ST
  iintro ⟨#HI, #Hlev, ⟨HFS, HBS, HFR, HBR, HO⟩⟩
  iintro Hk
  iapply (wp_wait_br X K hI c 12 14 13 (by decide) (by decide) (by decide) 28 29 (by decide) (by decide)) $$ [HBR HO]
  · isplitr; · iexact HI
    isplitr; · iexact Hlev
    isplitl [HBR]; · iexact HBR
    iexact HO
  iintro ⟨HBR, Hsl, HO⟩
  ihave Hsl := (lend_b X c 29 13 (by decide)) $$ Hsl
  iapply (wp_send_b X K hI c _ (Fin.ext (dev_pw c)) 14 13 29 30 (by decide) (by decide) rfl (by decide) (by decide)) $$ [HBS Hsl HO]
  · isplitr; · iexact HI
    isplitl [HBS]; · iexact HBS
    isplitl [Hsl]; · iexact Hsl
    iexact HO
  iintro ⟨HBS, HO⟩
  rw [wp_ret]; imodintro
  iapply Hk
  isplitl [HFS]; · iexact HFS
  isplitl [HBS]; · iexact HBS
  isplitl [HFR]; · iexact HFR
  isplitl [HBR]; · iexact HBR
  iexact HO

theorem hop26 (k0_hw2 : k0_chk2 (nw c)) {Q : (PUnit) → sProp 𝕄} :
    iprop(I ∗ levAts L lv ∗ (ST X c 14 14 13 13))
      ⊢ iprop(((ST X c 15 14 14 14 ∗ slotPt c 30 fullShare.right (G X c)) -∗ Q ⟨⟩) -∗ wp frame (wpE (defs₀ (F := F)) 𝒱₀ (c : Thread nD τ) none) Set.univ
          (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c)) Q) := by
  rw [k0_part26_eq_skeleton]; unfold k0_part26_skel
  simp only [Prog.lift, Prog.bind_op, Prog.bind_ret, Prog.pure_eq_ret]
  unfold ST
  iintro ⟨#HI, #Hlev, ⟨HFS, HBS, HFR, HBR, HO⟩⟩
  iintro Hk
  iapply (wp_wait_fr X K hI c 13 14 14 (by decide) (by decide) (by decide) 13 14 (by decide) (by decide)) $$ [HFR HO]
  · isplitr; · iexact HI
    isplitr; · iexact Hlev
    isplitl [HFR]; · iexact HFR
    iexact HO
  iintro ⟨HFR, Hsl, HO⟩
  ihave Hsl := (lend_f X c 14 (by decide)) $$ Hsl
  iapply (wp_send_f X K hI c _ (Fin.ext (dev_nw c)) 14 14 14 15 (by decide) rfl rfl (by decide) (by decide)) $$ [HFS Hsl HO]
  · isplitr; · iexact HI
    isplitl [HFS]; · iexact HFS
    isplitl [Hsl]; · iexact Hsl
    iexact HO
  iintro ⟨HFS, HO⟩
  iapply (wp_wait_br X K hI c 13 15 14 (by decide) (by decide) (by decide) 29 30 (by decide) (by decide)) $$ [HBR HO]
  · isplitr; · iexact HI
    isplitr; · iexact Hlev
    isplitl [HBR]; · iexact HBR
    iexact HO
  iintro ⟨HBR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop27 (k0_hw1 : k0_chk1 (pw c)) {Q : (PUnit) → sProp 𝕄} :
    iprop(I ∗ levAts L lv ∗ (ST X c 15 14 14 14 ∗ slotPt c 30 fullShare.right (G X c)))
      ⊢ iprop(((ST X c 15 15 15 14 ∗ slotPt c 15 fullShare.right (G X c)) -∗ Q ⟨⟩) -∗ wp frame (wpE (defs₀ (F := F)) 𝒱₀ (c : Thread nD τ) none) Set.univ
          (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (pw c) k0_hw1) Q) := by
  rw [k0_part27_eq_skeleton]; unfold k0_part27_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_b X c 30 14 (by decide)) $$ Hsl
  iapply (wp_send_b X K hI c _ (Fin.ext (dev_pw c)) 15 14 30 31 (by decide) (by decide) rfl (by decide) (by decide)) $$ [HBS Hsl HO]
  · isplitr; · iexact HI
    isplitl [HBS]; · iexact HBS
    isplitl [Hsl]; · iexact Hsl
    iexact HO
  iintro ⟨HBS, HO⟩
  iapply (wp_wait_fr X K hI c 14 15 15 (by decide) (by decide) (by decide) 14 15 (by decide) (by decide)) $$ [HFR HO]
  · isplitr; · iexact HI
    isplitr; · iexact Hlev
    isplitl [HFR]; · iexact HFR
    iexact HO
  iintro ⟨HFR, Hsl, HO⟩
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop28 (k0_hw2 : k0_chk2 (nw c)) {Q : (PUnit) → sProp 𝕄} :
    iprop(I ∗ levAts L lv ∗ (ST X c 15 15 15 14 ∗ slotPt c 15 fullShare.right (G X c)))
      ⊢ iprop(((ST X c 16 15 16 14 ∗ slotPt c 16 fullShare.right (G X c)) -∗ Q ⟨⟩) -∗ wp frame (wpE (defs₀ (F := F)) 𝒱₀ (c : Thread nD τ) none) Set.univ
          (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) k0_hw2 (pw c)) Q) := by
  rw [k0_part28_eq_skeleton]; unfold k0_part28_skel
  simp only [Prog.lift, Prog.bind_op, Prog.bind_ret, Prog.pure_eq_ret]
  unfold ST
  iintro ⟨#HI, #Hlev, ⟨HFS, HBS, HFR, HBR, HO⟩, Hsl⟩
  iintro Hk
  ihave Hsl := (lend_f X c 15 (by decide)) $$ Hsl
  iapply (wp_send_f X K hI c _ (Fin.ext (dev_nw c)) 15 15 15 16 (by decide) rfl rfl (by decide) (by decide)) $$ [HFS Hsl HO]
  · isplitr; · iexact HI
    isplitl [HFS]; · iexact HFS
    isplitl [Hsl]; · iexact Hsl
    iexact HO
  iintro ⟨HFS, HO⟩
  ihave HO := (Entails.of_eq (OWE_end c)) $$ HO
  iapply (wp_wait_fr X K hI c 15 16 16 (by decide) (by decide) (by decide) 15 16 (by decide) (by decide)) $$ [HFR HO]
  · isplitr; · iexact HI
    isplitr; · iexact Hlev
    isplitl [HFR]; · iexact HFR
    iexact HO
  iintro ⟨HFR, Hsl, HO⟩
  ihave HO := (Entails.of_eq (OWE_end c).symm) $$ HO
  rw [wp_ret]; imodintro
  iapply Hk
  isplitr [Hsl]
  · isplitl [HFS]; · iexact HFS
    isplitl [HBS]; · iexact HBS
    isplitl [HFR]; · iexact HFR
    isplitl [HBR]; · iexact HBR
    iexact HO
  iexact Hsl

theorem hop33 {Q : PUnit → sProp 𝕄} :
    iprop(I ∗ levAts L lv ∗ (FS X c 16 1 ∗ BS X c 15 0 ∗ OWE c 16 15))
      ⊢ iprop(((FS X c 16 4 ∗ BS X c 15 0 ∗ OWE c 16 15) -∗ Q ⟨⟩) -∗ wp frame (wpE (defs₀ (F := F)) 𝒱₀ (c : Thread nD τ) none) Set.univ
          (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part33_eq_skeleton]; unfold k0_part33_skel
  simp only [Prog.lift, Prog.bind_op, Prog.bind_ret, Prog.pure_eq_ret]
  iintro ⟨#HI, #Hlev, HFS, HBS, HO⟩
  iintro Hk
  iapply (wp_wait_fs X K hI c 1 (by decide) 2 1 (by decide) (by decide)) $$ [HFS HO]
  · isplitr; · iexact HI
    isplitr; · iexact Hlev
    isplitl [HFS]; · iexact HFS
    iexact HO
  iintro ⟨HFS, HO⟩
  iapply (wp_wait_fs X K hI c 2 (by decide) 3 2 (by decide) (by decide)) $$ [HFS HO]
  · isplitr; · iexact HI
    isplitr; · iexact Hlev
    isplitl [HFS]; · iexact HFS
    iexact HO
  iintro ⟨HFS, HO⟩
  iapply (wp_wait_fs X K hI c 3 (by decide) 4 3 (by decide) (by decide)) $$ [HFS HO]
  · isplitr; · iexact HI
    isplitr; · iexact Hlev
    isplitl [HFS]; · iexact HFS
    iexact HO
  iintro ⟨HFS, HO⟩
  rw [wp_ret]; imodintro
  iapply Hk
  isplitl [HFS]; · iexact HFS
  isplitl [HBS]; · iexact HBS
  iexact HO

theorem hop34 {Q : PUnit → sProp 𝕄} :
    iprop(I ∗ levAts L lv ∗ (FS X c 16 4 ∗ BS X c 15 0 ∗ OWE c 16 15))
      ⊢ iprop(((FS X c 16 7 ∗ BS X c 15 0 ∗ OWE c 16 15) -∗ Q ⟨⟩) -∗ wp frame (wpE (defs₀ (F := F)) 𝒱₀ (c : Thread nD τ) none) Set.univ
          (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part34_eq_skeleton]; unfold k0_part34_skel
  simp only [Prog.lift, Prog.bind_op, Prog.bind_ret, Prog.pure_eq_ret]
  iintro ⟨#HI, #Hlev, HFS, HBS, HO⟩
  iintro Hk
  iapply (wp_wait_fs X K hI c 4 (by decide) 5 4 (by decide) (by decide)) $$ [HFS HO]
  · isplitr; · iexact HI
    isplitr; · iexact Hlev
    isplitl [HFS]; · iexact HFS
    iexact HO
  iintro ⟨HFS, HO⟩
  iapply (wp_wait_fs X K hI c 5 (by decide) 6 5 (by decide) (by decide)) $$ [HFS HO]
  · isplitr; · iexact HI
    isplitr; · iexact Hlev
    isplitl [HFS]; · iexact HFS
    iexact HO
  iintro ⟨HFS, HO⟩
  iapply (wp_wait_fs X K hI c 6 (by decide) 7 6 (by decide) (by decide)) $$ [HFS HO]
  · isplitr; · iexact HI
    isplitr; · iexact Hlev
    isplitl [HFS]; · iexact HFS
    iexact HO
  iintro ⟨HFS, HO⟩
  rw [wp_ret]; imodintro
  iapply Hk
  isplitl [HFS]; · iexact HFS
  isplitl [HBS]; · iexact HBS
  iexact HO

theorem hop35 {Q : PUnit → sProp 𝕄} :
    iprop(I ∗ levAts L lv ∗ (FS X c 16 7 ∗ BS X c 15 0 ∗ OWE c 16 15))
      ⊢ iprop(((FS X c 16 9 ∗ BS X c 15 0 ∗ OWE c 16 15) -∗ Q ⟨⟩) -∗ wp frame (wpE (defs₀ (F := F)) 𝒱₀ (c : Thread nD τ) none) Set.univ
          (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part35_eq_skeleton]; unfold k0_part35_skel
  simp only [Prog.lift, Prog.bind_op, Prog.bind_ret, Prog.pure_eq_ret]
  iintro ⟨#HI, #Hlev, HFS, HBS, HO⟩
  iintro Hk
  iapply (wp_wait_fs X K hI c 7 (by decide) 8 7 (by decide) (by decide)) $$ [HFS HO]
  · isplitr; · iexact HI
    isplitr; · iexact Hlev
    isplitl [HFS]; · iexact HFS
    iexact HO
  iintro ⟨HFS, HO⟩
  iapply (wp_wait_fs X K hI c 8 (by decide) 9 8 (by decide) (by decide)) $$ [HFS HO]
  · isplitr; · iexact HI
    isplitr; · iexact Hlev
    isplitl [HFS]; · iexact HFS
    iexact HO
  iintro ⟨HFS, HO⟩
  rw [wp_ret]; imodintro
  iapply Hk
  isplitl [HFS]; · iexact HFS
  isplitl [HBS]; · iexact HBS
  iexact HO

theorem hop36 {Q : PUnit → sProp 𝕄} :
    iprop(I ∗ levAts L lv ∗ (FS X c 16 9 ∗ BS X c 15 0 ∗ OWE c 16 15))
      ⊢ iprop(((FS X c 16 12 ∗ BS X c 15 0 ∗ OWE c 16 15) -∗ Q ⟨⟩) -∗ wp frame (wpE (defs₀ (F := F)) 𝒱₀ (c : Thread nD τ) none) Set.univ
          (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part36_eq_skeleton]; unfold k0_part36_skel
  simp only [Prog.lift, Prog.bind_op, Prog.bind_ret, Prog.pure_eq_ret]
  iintro ⟨#HI, #Hlev, HFS, HBS, HO⟩
  iintro Hk
  iapply (wp_wait_fs X K hI c 9 (by decide) 10 9 (by decide) (by decide)) $$ [HFS HO]
  · isplitr; · iexact HI
    isplitr; · iexact Hlev
    isplitl [HFS]; · iexact HFS
    iexact HO
  iintro ⟨HFS, HO⟩
  iapply (wp_wait_fs X K hI c 10 (by decide) 11 10 (by decide) (by decide)) $$ [HFS HO]
  · isplitr; · iexact HI
    isplitr; · iexact Hlev
    isplitl [HFS]; · iexact HFS
    iexact HO
  iintro ⟨HFS, HO⟩
  iapply (wp_wait_fs X K hI c 11 (by decide) 12 11 (by decide) (by decide)) $$ [HFS HO]
  · isplitr; · iexact HI
    isplitr; · iexact Hlev
    isplitl [HFS]; · iexact HFS
    iexact HO
  iintro ⟨HFS, HO⟩
  rw [wp_ret]; imodintro
  iapply Hk
  isplitl [HFS]; · iexact HFS
  isplitl [HBS]; · iexact HBS
  iexact HO

theorem hop37 {Q : PUnit → sProp 𝕄} :
    iprop(I ∗ levAts L lv ∗ (FS X c 16 12 ∗ BS X c 15 0 ∗ OWE c 16 15))
      ⊢ iprop(((FS X c 16 15 ∗ BS X c 15 0 ∗ OWE c 16 15) -∗ Q ⟨⟩) -∗ wp frame (wpE (defs₀ (F := F)) 𝒱₀ (c : Thread nD τ) none) Set.univ
          (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part37_eq_skeleton]; unfold k0_part37_skel
  simp only [Prog.lift, Prog.bind_op, Prog.bind_ret, Prog.pure_eq_ret]
  iintro ⟨#HI, #Hlev, HFS, HBS, HO⟩
  iintro Hk
  iapply (wp_wait_fs X K hI c 12 (by decide) 13 12 (by decide) (by decide)) $$ [HFS HO]
  · isplitr; · iexact HI
    isplitr; · iexact Hlev
    isplitl [HFS]; · iexact HFS
    iexact HO
  iintro ⟨HFS, HO⟩
  iapply (wp_wait_fs X K hI c 13 (by decide) 14 13 (by decide) (by decide)) $$ [HFS HO]
  · isplitr; · iexact HI
    isplitr; · iexact Hlev
    isplitl [HFS]; · iexact HFS
    iexact HO
  iintro ⟨HFS, HO⟩
  iapply (wp_wait_fs X K hI c 14 (by decide) 15 14 (by decide) (by decide)) $$ [HFS HO]
  · isplitr; · iexact HI
    isplitr; · iexact Hlev
    isplitl [HFS]; · iexact HFS
    iexact HO
  iintro ⟨HFS, HO⟩
  rw [wp_ret]; imodintro
  iapply Hk
  isplitl [HFS]; · iexact HFS
  isplitl [HBS]; · iexact HBS
  iexact HO

theorem hop38 {Q : PUnit → sProp 𝕄} :
    iprop(I ∗ levAts L lv ∗ (FS X c 16 15 ∗ BS X c 15 0 ∗ OWE c 16 15))
      ⊢ iprop(((FS X c 16 16 ∗ BS X c 15 2 ∗ OWE c 16 15) -∗ Q ⟨⟩) -∗ wp frame (wpE (defs₀ (F := F)) 𝒱₀ (c : Thread nD τ) none) Set.univ
          (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part38_eq_skeleton]; unfold k0_part38_skel
  simp only [Prog.lift, Prog.bind_op, Prog.bind_ret, Prog.pure_eq_ret]
  iintro ⟨#HI, #Hlev, HFS, HBS, HO⟩
  iintro Hk
  iapply (wp_wait_fs X K hI c 15 (by decide) 16 15 (by decide) (by decide)) $$ [HFS HO]
  · isplitr; · iexact HI
    isplitr; · iexact Hlev
    isplitl [HFS]; · iexact HFS
    iexact HO
  iintro ⟨HFS, HO⟩
  iapply (wp_wait_bs X K hI c 0 (by decide) 17 0 (by decide) (by decide)) $$ [HBS HO]
  · isplitr; · iexact HI
    isplitr; · iexact Hlev
    isplitl [HBS]; · iexact HBS
    iexact HO
  iintro ⟨HBS, HO⟩
  iapply (wp_wait_bs X K hI c 1 (by decide) 18 17 (by decide) (by decide)) $$ [HBS HO]
  · isplitr; · iexact HI
    isplitr; · iexact Hlev
    isplitl [HBS]; · iexact HBS
    iexact HO
  iintro ⟨HBS, HO⟩
  rw [wp_ret]; imodintro
  iapply Hk
  isplitl [HFS]; · iexact HFS
  isplitl [HBS]; · iexact HBS
  iexact HO

theorem hop39 {Q : PUnit → sProp 𝕄} :
    iprop(I ∗ levAts L lv ∗ (FS X c 16 16 ∗ BS X c 15 2 ∗ OWE c 16 15))
      ⊢ iprop(((FS X c 16 16 ∗ BS X c 15 4 ∗ OWE c 16 15) -∗ Q ⟨⟩) -∗ wp frame (wpE (defs₀ (F := F)) 𝒱₀ (c : Thread nD τ) none) Set.univ
          (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part39_eq_skeleton]; unfold k0_part39_skel
  simp only [Prog.lift, Prog.bind_op, Prog.bind_ret, Prog.pure_eq_ret]
  iintro ⟨#HI, #Hlev, HFS, HBS, HO⟩
  iintro Hk
  iapply (wp_wait_bs X K hI c 2 (by decide) 19 18 (by decide) (by decide)) $$ [HBS HO]
  · isplitr; · iexact HI
    isplitr; · iexact Hlev
    isplitl [HBS]; · iexact HBS
    iexact HO
  iintro ⟨HBS, HO⟩
  iapply (wp_wait_bs X K hI c 3 (by decide) 20 19 (by decide) (by decide)) $$ [HBS HO]
  · isplitr; · iexact HI
    isplitr; · iexact Hlev
    isplitl [HBS]; · iexact HBS
    iexact HO
  iintro ⟨HBS, HO⟩
  rw [wp_ret]; imodintro
  iapply Hk
  isplitl [HFS]; · iexact HFS
  isplitl [HBS]; · iexact HBS
  iexact HO

theorem hop40 {Q : PUnit → sProp 𝕄} :
    iprop(I ∗ levAts L lv ∗ (FS X c 16 16 ∗ BS X c 15 4 ∗ OWE c 16 15))
      ⊢ iprop(((FS X c 16 16 ∗ BS X c 15 7 ∗ OWE c 16 15) -∗ Q ⟨⟩) -∗ wp frame (wpE (defs₀ (F := F)) 𝒱₀ (c : Thread nD τ) none) Set.univ
          (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part40_eq_skeleton]; unfold k0_part40_skel
  simp only [Prog.lift, Prog.bind_op, Prog.bind_ret, Prog.pure_eq_ret]
  iintro ⟨#HI, #Hlev, HFS, HBS, HO⟩
  iintro Hk
  iapply (wp_wait_bs X K hI c 4 (by decide) 21 20 (by decide) (by decide)) $$ [HBS HO]
  · isplitr; · iexact HI
    isplitr; · iexact Hlev
    isplitl [HBS]; · iexact HBS
    iexact HO
  iintro ⟨HBS, HO⟩
  iapply (wp_wait_bs X K hI c 5 (by decide) 22 21 (by decide) (by decide)) $$ [HBS HO]
  · isplitr; · iexact HI
    isplitr; · iexact Hlev
    isplitl [HBS]; · iexact HBS
    iexact HO
  iintro ⟨HBS, HO⟩
  iapply (wp_wait_bs X K hI c 6 (by decide) 23 22 (by decide) (by decide)) $$ [HBS HO]
  · isplitr; · iexact HI
    isplitr; · iexact Hlev
    isplitl [HBS]; · iexact HBS
    iexact HO
  iintro ⟨HBS, HO⟩
  rw [wp_ret]; imodintro
  iapply Hk
  isplitl [HFS]; · iexact HFS
  isplitl [HBS]; · iexact HBS
  iexact HO

theorem hop41 {Q : PUnit → sProp 𝕄} :
    iprop(I ∗ levAts L lv ∗ (FS X c 16 16 ∗ BS X c 15 7 ∗ OWE c 16 15))
      ⊢ iprop(((FS X c 16 16 ∗ BS X c 15 10 ∗ OWE c 16 15) -∗ Q ⟨⟩) -∗ wp frame (wpE (defs₀ (F := F)) 𝒱₀ (c : Thread nD τ) none) Set.univ
          (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part41_eq_skeleton]; unfold k0_part41_skel
  simp only [Prog.lift, Prog.bind_op, Prog.bind_ret, Prog.pure_eq_ret]
  iintro ⟨#HI, #Hlev, HFS, HBS, HO⟩
  iintro Hk
  iapply (wp_wait_bs X K hI c 7 (by decide) 24 23 (by decide) (by decide)) $$ [HBS HO]
  · isplitr; · iexact HI
    isplitr; · iexact Hlev
    isplitl [HBS]; · iexact HBS
    iexact HO
  iintro ⟨HBS, HO⟩
  iapply (wp_wait_bs X K hI c 8 (by decide) 25 24 (by decide) (by decide)) $$ [HBS HO]
  · isplitr; · iexact HI
    isplitr; · iexact Hlev
    isplitl [HBS]; · iexact HBS
    iexact HO
  iintro ⟨HBS, HO⟩
  iapply (wp_wait_bs X K hI c 9 (by decide) 26 25 (by decide) (by decide)) $$ [HBS HO]
  · isplitr; · iexact HI
    isplitr; · iexact Hlev
    isplitl [HBS]; · iexact HBS
    iexact HO
  iintro ⟨HBS, HO⟩
  rw [wp_ret]; imodintro
  iapply Hk
  isplitl [HFS]; · iexact HFS
  isplitl [HBS]; · iexact HBS
  iexact HO

theorem hop42 {Q : PUnit → sProp 𝕄} :
    iprop(I ∗ levAts L lv ∗ (FS X c 16 16 ∗ BS X c 15 10 ∗ OWE c 16 15))
      ⊢ iprop(((FS X c 16 16 ∗ BS X c 15 12 ∗ OWE c 16 15) -∗ Q ⟨⟩) -∗ wp frame (wpE (defs₀ (F := F)) 𝒱₀ (c : Thread nD τ) none) Set.univ
          (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part42_eq_skeleton]; unfold k0_part42_skel
  simp only [Prog.lift, Prog.bind_op, Prog.bind_ret, Prog.pure_eq_ret]
  iintro ⟨#HI, #Hlev, HFS, HBS, HO⟩
  iintro Hk
  iapply (wp_wait_bs X K hI c 10 (by decide) 27 26 (by decide) (by decide)) $$ [HBS HO]
  · isplitr; · iexact HI
    isplitr; · iexact Hlev
    isplitl [HBS]; · iexact HBS
    iexact HO
  iintro ⟨HBS, HO⟩
  iapply (wp_wait_bs X K hI c 11 (by decide) 28 27 (by decide) (by decide)) $$ [HBS HO]
  · isplitr; · iexact HI
    isplitr; · iexact Hlev
    isplitl [HBS]; · iexact HBS
    iexact HO
  iintro ⟨HBS, HO⟩
  rw [wp_ret]; imodintro
  iapply Hk
  isplitl [HFS]; · iexact HFS
  isplitl [HBS]; · iexact HBS
  iexact HO

end Hops

end Cert.Proof

end
-- ==== Proof.Slots.lean ====
/-
  The gathered buffer cut into its slots and put together again; the pools at the start and at the end.
-/
module

public import proofs.«01_k».proof.Proof.Hops
public import Idealize.SL.BI.BigOpNat

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : GSem nD τ sig → ℕ)

/-! ## Conjunctions over numbers -/

theorem fin_Ico (n : ℕ) (Φ : ℕ → sProp 𝕄) : bigSep Finset.univ (fun h : Fin n => Φ h.val) = bigSep (Finset.Ico 0 n) Φ := by
  rw [show Finset.Ico 0 n = (Finset.univ : Finset (Fin n)).map Fin.valEmbedding by
    ext k
    simp only [Finset.mem_Ico, Finset.mem_map, Finset.mem_univ, true_and]
    constructor
    · rintro ⟨-, h⟩; exact ⟨⟨k, h⟩, rfl⟩
    · rintro ⟨h, rfl⟩; exact ⟨Nat.zero_le _, h.isLt⟩]
  exact (bigSep_map (s := Finset.univ) Fin.valEmbedding (Φ := Φ)).symm

theorem Ico_join {a b d : ℕ} (hab : a ≤ b) (hbd : b ≤ d) (Φ : ℕ → sProp 𝕄) :
    iprop(bigSep (Finset.Ico a b) Φ ∗ bigSep (Finset.Ico b d) Φ) = bigSep (Finset.Ico a d) Φ := by
  rw [← Finset.Ico_union_Ico_eq_Ico hab hbd]
  exact (bigSep_union (Finset.Ico_disjoint_Ico_consecutive a b d)).symm
theorem Ico_congr {Φ Ψ : ℕ → sProp 𝕄} {a b : ℕ} (h : ∀ g, a ≤ g → g < b → Φ g = Ψ g) : bigSep (Finset.Ico a b) Φ = bigSep (Finset.Ico a b) Ψ :=
  bigSep_congr fun g hg => h g (Finset.mem_Ico.mp hg).1 (Finset.mem_Ico.mp hg).2
theorem Ico_shift (Φ : ℕ → sProp 𝕄) (a b k : ℕ) : bigSep (Finset.Ico a b) (fun g => Φ (g + k)) = bigSep (Finset.Ico (a + k) (b + k)) Φ := by
  rw [← Finset.map_add_right_Ico a b k]
  exact (bigSep_map (s := Finset.Ico a b) (addRightEmbedding k) (Φ := Φ)).symm

/-! ## The buffer whole, and by its slots -/

/-- The gathered buffer of device c, whole. -/
abbrev kvPt (c : Dev nD) (q : PosShare TreeShare) (f : KV F c) : sProp 𝕄 := ((c : Thread nD τ).loc cc0_scratch0) ↦{q} f

theorem slots_cover : (Finset.Ico 0 32).biUnion slotSet = Finset.univ :=
  Finset.eq_univ_iff_forall.mpr fun i => Finset.mem_biUnion.mpr ⟨(i 3).val, Finset.mem_Ico.mpr ⟨Nat.zero_le _, (i 3).isLt⟩, mem_slotSet.mpr rfl⟩

theorem kv_slots (c : Dev nD) (q : PosShare TreeShare) (f : KV F c) :
    (kvPt c q f : sProp 𝕄) = bigSep (Finset.Ico 0 32) fun k => slotPt c k q f := by
  have h := pointsTo_biUnion (ℓ := (c : Thread nD τ).loc cc0_scratch0) (q := q) (f := f) (Ix := Unit) (Name := ℕ) (U := UU) (Lvl := ℕ) (Finset.Ico 0 32) slotSet fun t _ t' _ h => slots_disjoint h
  rw [slots_cover] at h
  exact h

theorem cut_fwd (Φ : ℕ → sProp 𝕄) : bigSep Finset.univ (fun h : Fin 16 => Φ (h.val + 1)) = bigSep (Finset.Ico 1 17) Φ :=
  (fin_Ico 16 fun k => Φ (k + 1)).trans (Ico_shift Φ 0 16 1)
theorem cut_bwd (Φ : ℕ → sProp 𝕄) : bigSep Finset.univ (fun h : Fin 15 => Φ (17 + h.val)) = bigSep (Finset.Ico 17 32) Φ := by
  rw [bigSep_congr (Ψ := fun h : Fin 15 => Φ (h.val + 17)) (fun h _ => by rw [Nat.add_comm])]
  exact (fin_Ico 15 fun k => Φ (k + 17)).trans (Ico_shift Φ 0 15 17)
theorem cut_slots (Φ : ℕ → sProp 𝕄) :
    bigSep (Finset.Ico 0 32) Φ = iprop(Φ 0 ∗ bigSep (Finset.Ico 1 17) Φ ∗ bigSep (Finset.Ico 17 32) Φ) := by
  rw [bigSep_Ico_succ_bot (by decide), ← Ico_join (show 0 + 1 ≤ 17 by decide) (show 17 ≤ 32 by decide)]

/-- Slot 0, the slots filled by the forward copies, those filled by the backward ones. -/
theorem kv_cut (c : Dev nD) (q : PosShare TreeShare) (f : KV F c) :
    (kvPt c q f : sProp 𝕄) = iprop(slotPt c 0 q f ∗ (bigSep Finset.univ fun h : Fin 16 => slotPt c (h.val + 1) q f)
      ∗ bigSep Finset.univ fun h : Fin 15 => slotPt c (17 + h.val) q f) := by
  rw [kv_slots, cut_slots, cut_fwd (fun k => slotPt c k q f), cut_bwd (fun k => slotPt c k q f)]

/-! ## Start and end of the pools -/

/-- The receive cells after their waits, and the send cells after theirs. -/
def atFR (c : Dev nD) : sProp 𝕄 := bigSep Finset.univ fun h : Fin 16 => atPos ER (frC c h.val h.isLt) 1 ∅ 0
def atBR (c : Dev nD) : sProp 𝕄 := bigSep Finset.univ fun h : Fin 15 => atPos ER (brC c h.val h.isLt) 1 ∅ 0
def atFS (c : Dev nD) : sProp 𝕄 := bigSep Finset.univ fun h : Fin 16 => atPos ER (fsC c h.val h.isLt) 1 ∅ 0
def atBS (c : Dev nD) : sProp 𝕄 := bigSep Finset.univ fun h : Fin 15 => atPos ER (bsC c h.val h.isLt) 1 ∅ 0

theorem FR_end (c : Dev nD) : FR X c 16 = iprop(atFR c ∗ bigSep Finset.univ fun h : Fin 16 => slotPt c (h.val + 1) fullShare.left (G X c)) := by
  unfold FR atFR
  rw [← bigSep_sep']
  exact bigSep_congr fun h _ => by unfold frI; rw [if_pos h.isLt]
theorem BR_end (c : Dev nD) : BR X c 15 = iprop(atBR c ∗ bigSep Finset.univ fun h : Fin 15 => slotPt c (17 + h.val) fullShare.left (G X c)) := by
  unfold BR atBR
  rw [← bigSep_sep']
  exact bigSep_congr fun h _ => by unfold brI; rw [if_pos h.isLt]
theorem FS_end (c : Dev nD) : FS X c 16 16 = iprop(atFS c ∗ bigSep Finset.univ fun h : Fin 16 => slotPt c h.val (shF h.val) (G X c)) := by
  unfold FS atFS
  rw [← bigSep_sep']
  exact bigSep_congr fun h _ => by unfold fsI; rw [if_pos h.isLt]
theorem BS_end (c : Dev nD) : BS X c 15 15 = iprop(atBS c ∗ bigSep Finset.univ fun h : Fin 15 => slotPt c (bslot h.val) (shB h.val) (G X c)) := by
  unfold BS atBS
  rw [← bigSep_sep']
  exact bigSep_congr fun h _ => by unfold bsI; rw [if_pos h.isLt]

/-- All slots received: half of the gathered buffer, whole. -/
theorem gather (c : Dev nD) :
    iprop(FR X c 16 ∗ BR X c 15 ∗ slotPt c 0 fullShare.left (G X c)) ⊢ iprop((atFR c ∗ atBR c) ∗ kvPt c fullShare.left (G X c)) := by
  rw [FR_end, BR_end, kv_cut]
  iintro ⟨⟨Ha, Hf⟩, ⟨Hb, Hg⟩, H0⟩
  isplitl [Ha Hb]
  · isplitl [Ha]; · iexact Ha
    iexact Hb
  isplitl [H0]; · iexact H0
  isplitl [Hf]; · iexact Hf
  iexact Hg

theorem shF_zero : shF 0 = fullShare.right.left := by unfold shF; exact if_pos rfl
theorem shB_zero : shB 0 = fullShare.right.right := by unfold shB; exact if_pos rfl
theorem shF_pos {h : ℕ} (hh : 0 < h) : shF h = fullShare.right := by unfold shF; exact if_neg (by omega)
theorem shB_pos {h : ℕ} (hh : 0 < h) : shB h = fullShare.right := by unfold shB; exact if_neg (by omega)

theorem fwd_slots (c : Dev nD) (f : KV F c) :
    (bigSep Finset.univ fun h : Fin 16 => slotPt c h.val (shF h.val) f : sProp 𝕄)
      = iprop(slotPt c 0 fullShare.right.left f ∗ bigSep (Finset.Ico 1 16) fun k => slotPt c k fullShare.right f) := by
  rw [fin_Ico 16 (fun k => slotPt c k (shF k) f), bigSep_Ico_succ_bot (by decide), shF_zero]
  rw [Ico_congr (Ψ := fun k => slotPt c k fullShare.right f) (fun g h _ => by rw [shF_pos (by omega)])]
theorem bwd_slots (c : Dev nD) (f : KV F c) :
    (bigSep Finset.univ fun h : Fin 15 => slotPt c (bslot h.val) (shB h.val) f : sProp 𝕄)
      = iprop(slotPt c 0 fullShare.right.right f ∗ bigSep (Finset.Ico 17 31) fun k => slotPt c k fullShare.right f) := by
  rw [fin_Ico 15 (fun k => slotPt c (bslot k) (shB k) f), bigSep_Ico_succ_bot (by decide), shB_zero]
  rw [Ico_congr (Ψ := fun k => slotPt c (k + 16) fullShare.right f) (fun g h _ => by
    rw [shB_pos (by omega), show bslot g = g + 16 by unfold bslot; rw [if_neg (by omega)]; omega])]
  rw [Ico_shift (fun k => slotPt c k fullShare.right f) 1 15 16]
  rfl

/-- The lent shares back, with the two never lent: the other half of the gathered buffer. -/
theorem back (c : Dev nD) :
    iprop(FS X c 16 16 ∗ BS X c 15 15 ∗ slotPt c 16 fullShare.right (G X c) ∗ slotPt c 31 fullShare.right (G X c))
      ⊢ iprop((atFS c ∗ atBS c) ∗ kvPt c fullShare.right (G X c)) := by
  rw [FS_end, BS_end, kv_slots, cut_slots, fwd_slots, bwd_slots,
    bigSep_Ico_succ_top (a := 1) (b := 16) (by decide), bigSep_Ico_succ_top (a := 17) (b := 31) (by decide)]
  iintro ⟨⟨Ha, Hf0, Hf⟩, ⟨Hb, Hg0, Hg⟩, H16, H31⟩
  isplitl [Ha Hb]
  · isplitl [Ha]; · iexact Ha
    iexact Hb
  isplitl [Hf0 Hg0]
  · iapply (slot_halves c 0 fullShare.right (G X c)).2
    isplitl [Hf0]; · iexact Hf0
    iexact Hg0
  isplitl [Hf H16]
  · isplitl [H16]; · iexact H16
    iexact Hf
  isplitl [H31]; · iexact H31
  iexact Hg

/-- Both halves. -/
theorem kv_whole (c : Dev nD) (f : KV F c) :
    (kvPt c fullShare f : sProp 𝕄) ⊣⊢ iprop(kvPt c fullShare.left f ∗ kvPt c fullShare.right f) :=
  pointsTo_share (PosShare.mem_left_op_right fullShare)

/-! ## What a device holds at launch for its copies -/

/-- Of the forward copies' ends: the right neighbour's receive duties, its own send cells. -/
def tokF (c : Dev nD) : sProp 𝕄 := bigSep Finset.univ fun h : Fin 16 =>
  iprop(dutyTok ER (frC (nxt c) h.val h.isLt) 0 false ∗ dutyTok ER (fsC c h.val h.isLt) 0 false ∗ reached ER (fsC c h.val h.isLt) 0 ∗ atPos ER (fsC c h.val h.isLt) 0 ∅ 0)
def tokB (c : Dev nD) : sProp 𝕄 := bigSep Finset.univ fun h : Fin 15 =>
  iprop(dutyTok ER (brC (prv c) h.val h.isLt) 0 false ∗ dutyTok ER (bsC c h.val h.isLt) 0 false ∗ reached ER (bsC c h.val h.isLt) 0 ∗ atPos ER (bsC c h.val h.isLt) 0 ∅ 0)

theorem fsI_init (c : Dev nD) (h : Fin 16) :
    iprop(((∃ f : KV F (nxt c), slotPt (nxt c) (h.val + 1) fullShare f) ∗ reached ER (frC (nxt c) h.val h.isLt) 0)
      ∗ dutyTok ER (frC (nxt c) h.val h.isLt) 0 false ∗ dutyTok ER (fsC c h.val h.isLt) 0 false ∗ reached ER (fsC c h.val h.isLt) 0 ∗ atPos ER (fsC c h.val h.isLt) 0 ∅ 0)
      ⊢ fsI X c 0 0 h := by
  unfold fsI
  rw [if_neg (Nat.not_lt_zero _), if_neg (Nat.not_lt_zero _)]
  unfold fwdCap
  iintro ⟨⟨Hs, Hr⟩, Ht, Hd, Hq, Ha⟩
  isplitl [Hs]; · iexact Hs
  isplitl [Ht]; · iexact Ht
  isplitl [Hr]; · iexact Hr
  isplitl [Hd]; · iexact Hd
  isplitl [Hq]; · iexact Hq
  iexact Ha
theorem bsI_init (c : Dev nD) (h : Fin 15) :
    iprop(((∃ f : KV F (prv c), slotPt (prv c) (17 + h.val) fullShare f) ∗ reached ER (brC (prv c) h.val h.isLt) 0)
      ∗ dutyTok ER (brC (prv c) h.val h.isLt) 0 false ∗ dutyTok ER (bsC c h.val h.isLt) 0 false ∗ reached ER (bsC c h.val h.isLt) 0 ∗ atPos ER (bsC c h.val h.isLt) 0 ∅ 0)
      ⊢ bsI X c 0 0 h := by
  unfold bsI
  rw [if_neg (Nat.not_lt_zero _), if_neg (Nat.not_lt_zero _)]
  unfold bwdCap
  iintro ⟨⟨Hs, Hr⟩, Ht, Hd, Hq, Ha⟩
  isplitl [Hs]; · iexact Hs
  isplitl [Ht]; · iexact Ht
  isplitl [Hr]; · iexact Hr
  isplitl [Hd]; · iexact Hd
  isplitl [Hq]; · iexact Hq
  iexact Ha

theorem FS_init (c : Dev nD) : iprop(barPayF c ∗ tokF c) ⊢ FS X c 0 0 := by
  unfold barPayF tokF FS
  rw [← bigSep_sep', ← bigSep_sep']
  exact bigSep_mono fun h _ => fsI_init X c h
theorem BS_init (c : Dev nD) : iprop(barPayB c ∗ tokB c) ⊢ BS X c 0 0 := by
  unfold barPayB tokB BS
  rw [← bigSep_sep', ← bigSep_sep']
  exact bigSep_mono fun h _ => bsI_init X c h

end Cert.Proof

end
-- ==== Proof.Ends.lean ====
/-
  The two ends of the kernel: the barrier, the device's own block and the first two copies; and, the gathered buffer being
  full, the attention and the product. One lemma per printed part.
-/
module

public import proofs.«01_k».proof.Proof.Slots

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Inputs, and the block a device puts in its slot 0 -/

/-- What one device is given. -/
structure Ins (F : FTy → Type) [FloatOps F] where
  x : Vec F S2x256x512 .bf16
  wq : Vec F S512x256 .bf16
  k : Vec F S2x256x4x64 .bf16
  v : Vec F S2x256x4x64 .bf16
  wo : Vec F S256x512 .bf16

/-- A slot's coordinates with keys and values no longer told apart. -/
def front (y : S2x2x4x1x256x64.Idx) : S1x2x4x1x256x64.Idx := fun
  | 0 => (0 : Fin 1) | 1 => y 1 | 2 => y 2 | 3 => y 3 | 4 => y 4 | 5 => y 5
  | ⟨n + 6, h⟩ => absurd h (by show ¬ n + 6 < 6; omega)

/-- The block of device c: its keys, then its values. -/
def blk (J : Dev nD → Ins F) (c : Dev nD) : Blk F := fun y =>
  if (y 0).val = 0 then k0_pay1 (J c).k (front y) else k0_pay2 (J c).v (front y)

abbrev rK : Rect S2x2x4x32x256x64 := Rect.unit (s := S2x2x4x32x256x64) ![0, 0, 0, 0, 0, 0] S1x2x4x1x256x64.size inb_S2x2x4x32x256x64_S1x2x4x1x256x64_0_0_0_0_0_0
abbrev rV : Rect S2x2x4x32x256x64 := Rect.unit (s := S2x2x4x32x256x64) ![1, 0, 0, 0, 0, 0] S1x2x4x1x256x64.size inb_S2x2x4x32x256x64_S1x2x4x1x256x64_1_0_0_0_0_0

theorem rK_sub : rK.set ⊆ slotSet 0 := fun i hi => by
  rw [mem_slotSet]
  have h := ((Rect.mem_set_unit).mp hi) 3
  have h2 : (i 3).val < 0 + 1 := h.2
  omega
theorem rV_sub : rV.set ⊆ slotSet 0 := fun i hi => by
  rw [mem_slotSet]
  have h := ((Rect.mem_set_unit).mp hi) 3
  have h2 : (i 3).val < 0 + 1 := h.2
  omega
theorem acc_set (r : Rect S2x2x4x32x256x64) : (kvM.access r : View sig .tc _ _ _).set = r.set := View.set_slice_whole cc0_scratch0 r

theorem rK_emb (i : S2x2x4x32x256x64.Idx) (h0 : (i 0).val = 0) (h3 : (i 3).val = 0) : rK.emb (front (norm i)) = i := by
  funext a
  apply Fin.ext
  fin_cases a
  · show 0 + 1 * 0 = (i 0).val; omega
  · show 0 + 1 * (i 1).val = (i 1).val; omega
  · show 0 + 1 * (i 2).val = (i 2).val; omega
  · show 0 + 1 * 0 = (i 3).val; omega
  · show 0 + 1 * (i 4).val = (i 4).val; omega
  · show 0 + 1 * (i 5).val = (i 5).val; omega
theorem rV_emb (i : S2x2x4x32x256x64.Idx) (h0 : (i 0).val = 1) (h3 : (i 3).val = 0) : rV.emb (front (norm i)) = i := by
  funext a
  apply Fin.ext
  fin_cases a
  · show 1 + 1 * 0 = (i 0).val; omega
  · show 0 + 1 * (i 1).val = (i 1).val; omega
  · show 0 + 1 * (i 2).val = (i 2).val; omega
  · show 0 + 1 * 0 = (i 3).val; omega
  · show 0 + 1 * (i 4).val = (i 4).val; omega
  · show 0 + 1 * (i 5).val = (i 5).val; omega

/-- The two stores leave slot 0 at the device's own block. -/
theorem stored (J : Dev nD → Ins F) (c : Dev nD) (f : KV F c) (i : S2x2x4x32x256x64.Idx) (hi : i ∈ slotSet 0) :
    (kvM.access rV : View sig .tc _ _ _).write (Elt F) ((kvM.access rK : View sig .tc _ _ _).write (Elt F) f (k0_pay1 (J c).k) Finset.univ) (k0_pay2 (J c).v) Finset.univ i
      = G (blk J) c i := by
  have h3 : (i 3).val = 0 := mem_slotSet.mp hi
  have hG : G (blk J) c i = blk J c (norm i) := by unfold G; show blk J (src c (i 3).val) (norm i) = _; rw [h3]; rfl
  rw [hG]
  unfold blk
  by_cases h0 : (i 0).val = 0
  · rw [if_pos (show ((norm i) 0).val = 0 from h0)]
    rw [View.write_of_not_mem (v := (kvM.access rV : View sig .tc _ _ _)) _ _ _ (by
      rw [View.setOn_univ, acc_set]
      intro h
      have h1 : 1 ≤ (i 0).val := ((Rect.mem_set_unit.mp h) 0).1
      omega)]
    have e := View.write_emb_of_mem (Val := Elt F) (v := (kvM.access rK : View sig .tc _ _ _)) f (k0_pay1 (J c).k) (Finset.mem_univ (front (norm i)))
    rw [show (kvM.access rK : View sig .tc _ _ _).emb (front (norm i)) = i from rK_emb i h0 h3] at e
    exact e
  · have h1 : (i 0).val = 1 := by have : (i 0).val < 2 := (i 0).isLt; omega
    rw [if_neg (show ¬ ((norm i) 0).val = 0 from h0)]
    have e := View.write_emb_of_mem (Val := Elt F) (v := (kvM.access rV : View sig .tc _ _ _)) ((kvM.access rK : View sig .tc _ _ _).write (Elt F) f (k0_pay1 (J c).k) Finset.univ) (k0_pay2 (J c).v) (Finset.mem_univ (front (norm i)))
    rw [show (kvM.access rV : View sig .tc _ _ _).emb (front (norm i)) = i from rV_emb i h1 h3] at e
    exact e

/-! ## Contents read and written whole -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The words -/

theorem chk_nw (c : Dev nD) : k0_chk2 (nw c) := by
  have h : k0_dev2 (nw c) < nD := by rw [dev_nw]; exact (nxt c).isLt
  unfold k0_chk2; repeat' apply And.intro
  all_goals exact h
theorem chk_pw (c : Dev nD) : k0_chk1 (pw c) := by
  have h : k0_dev1 (pw c) < nD := by rw [dev_pw]; exact (prv c).isLt
  unfold k0_chk1; repeat' apply And.intro
  all_goals exact h

/-- A staging buffer of device c. -/
abbrev stPt (c : Dev nD) (b : Ref sig .tc) (f : Buf (Elt F) ((c : Thread nD τ).loc b)) : sProp 𝕄 := ((c : Thread nD τ).loc b) ↦{fullShare} f

/-- What a device starts its body with for the barrier. -/
def barIn (c : Dev nD) : sProp 𝕄 :=
  iprop((bigSep Finset.univ fun h : Fin 16 => reached ER (frC c h.val h.isLt) 0) ∗ (bigSep Finset.univ fun h : Fin 15 => reached ER (brC c h.val h.isLt) 0)
    ∗ (dutyTok ER (barC (prv c)) 0 false ∗ reached ER (barC (prv c)) 0) ∗ (dutyTok ER (barC (nxt c)) 0 true ∗ reached ER (barC (nxt c)) 0)
    ∗ cred (tallyAt (barC c) () 2) ∗ atPos ER (barC c) 0 ∅ 0)

theorem duty_bar_mem (X : Dev nD → Blk F) (c : Dev nD) (b : Bool) : b ∈ (Rd (F := F) X).duties (barC c) 0 := by
  rw [duties_bar]; cases b <;> decide

theorem payF_intro (c : Dev nD) (f : KV F c) :
    iprop((bigSep Finset.univ fun h : Fin 16 => slotPt c (h.val + 1) fullShare f) ∗ bigSep Finset.univ fun h : Fin 16 => reached ER (frC c h.val h.isLt) 0)
      ⊢ (barPayF (F := F) (prv c)) := by
  have e : (bigSep Finset.univ (fun h : Fin 16 => slotPt c (h.val + 1) fullShare f) : sProp 𝕄)
      ⊢ bigSep Finset.univ fun h : Fin 16 => iprop(∃ f : KV F c, slotPt c (h.val + 1) fullShare f) :=
    bigSep_mono fun h _ => exists_intro (Φ := fun f : KV F c => slotPt c (h.val + 1) fullShare f) f
  unfold barPayF
  rw [nxt_prv]
  iintro ⟨H, Hr⟩
  isplitl [H]; · iapply e; iexact H
  iexact Hr
theorem payB_intro (c : Dev nD) (f : KV F c) :
    iprop((bigSep Finset.univ fun h : Fin 15 => slotPt c (17 + h.val) fullShare f) ∗ bigSep Finset.univ fun h : Fin 15 => reached ER (brC c h.val h.isLt) 0)
      ⊢ (barPayB (F := F) (nxt c)) := by
  have e : (bigSep Finset.univ (fun h : Fin 15 => slotPt c (17 + h.val) fullShare f) : sProp 𝕄)
      ⊢ bigSep Finset.univ fun h : Fin 15 => iprop(∃ f : KV F c, slotPt c (17 + h.val) fullShare f) :=
    bigSep_mono fun h _ => exists_intro (Φ := fun f : KV F c => slotPt c (17 + h.val) fullShare f) f
  unfold barPayB
  rw [prv_nxt]
  iintro ⟨H, Hr⟩
  isplitl [H]; · iapply e; iexact H
  iexact Hr

/-- A neighbour's number read. -/
theorem wp_word5 (c : Dev nD) (b : BitVec 32) {r : Rect S1} {hl : (Memref.whole cc0_stg5_0 : Memref sig .tc .smem S1 .i32).view.LoadsAt r.toLoadRect} {α : Type} {Q : α → sProp 𝕄}
    {kk : (r.toLoadRect.shape.Idx → Elt F .i32) → Prog (TpuEff nD τ sig (Elt F) Λ₀ .tc) α} :
    stPt c cc0_stg5_0 (fun _ => b)
      ⊢ iprop((stPt c cc0_stg5_0 (fun _ => b) -∗ wp frame (wpE (defs₀ (F := F)) 𝒱₀ (c : Thread nD τ) none) Set.univ (kk (fun _ => b)) Q)
          -∗ wp frame (wpE (defs₀ (F := F)) 𝒱₀ (c : Thread nD τ) none) Set.univ (.op (.load (Memref.whole cc0_stg5_0 : Memref sig .tc .smem S1 .i32) r.toLoadRect hl) kk) Q) :=
  wp_load 𝒱₀ (c : Thread nD τ) none Set.univ (m := (Memref.whole cc0_stg5_0 : Memref sig .tc .smem S1 .i32)) (Finset.subset_univ _)
/-- A neighbour's number read. -/
theorem wp_word6 (c : Dev nD) (b : BitVec 32) {r : Rect S1} {hl : (Memref.whole cc0_stg6_0 : Memref sig .tc .smem S1 .i32).view.LoadsAt r.toLoadRect} {α : Type} {Q : α → sProp 𝕄}
    {kk : (r.toLoadRect.shape.Idx → Elt F .i32) → Prog (TpuEff nD τ sig (Elt F) Λ₀ .tc) α} :
    stPt c cc0_stg6_0 (fun _ => b)
      ⊢ iprop((stPt c cc0_stg6_0 (fun _ => b) -∗ wp frame (wpE (defs₀ (F := F)) 𝒱₀ (c : Thread nD τ) none) Set.univ (kk (fun _ => b)) Q)
          -∗ wp frame (wpE (defs₀ (F := F)) 𝒱₀ (c : Thread nD τ) none) Set.univ (.op (.load (Memref.whole cc0_stg6_0 : Memref sig .tc .smem S1 .i32) r.toLoadRect hl) kk) Q) :=
  wp_load 𝒱₀ (c : Thread nD τ) none Set.univ (m := (Memref.whole cc0_stg6_0 : Memref sig .tc .smem S1 .i32)) (Finset.subset_univ _)

/-- A load whose value is known. -/
theorem wp_ld (c : Dev nD) {cs : CoreSpace} {s : Shape} {e : EltTy} (m : Memref sig .tc cs s e) (r : LoadRect s) {q : PosShare TreeShare}
    (f : Buf (Elt F) (m.view.loc (c : Thread nD τ))) (v : r.shape.Idx → Elt F e) (hv : m.view.readAt (Elt F) r f = v) {hl : m.view.LoadsAt r}
    {α : Type} {Q : α → sProp 𝕄} {kk : (r.shape.Idx → Elt F e) → Prog (TpuEff nD τ sig (Elt F) Λ₀ .tc) α} :
    (m.view.loc (c : Thread nD τ) ↦{q} f)
      ⊢ iprop(((m.view.loc (c : Thread nD τ) ↦{q} f) -∗ wp frame (wpE (defs₀ (F := F)) 𝒱₀ (c : Thread nD τ) none) Set.univ (kk v) Q)
          -∗ wp frame (wpE (defs₀ (F := F)) 𝒱₀ (c : Thread nD τ) none) Set.univ (.op (.load m r hl) kk) Q) := by
  subst hv
  exact wp_load 𝒱₀ (c : Thread nD τ) none Set.univ (m := m) (Finset.subset_univ _)

theorem rd_sub {r : Rect S2x2x4x32x256x64} (h : r.set ⊆ slotSet 0) : kvM.view.setOn r.toLoadRect.set ⊆ slotSet 0 := by
  have e : (kvM.access r : View sig .tc _ _ _).set = kvM.view.setOn r.toLoadRect.set := View.set_slice _ _
  rw [← e, acc_set]; exact h
theorem wr_sub {r : Rect S2x2x4x32x256x64} (h : r.set ⊆ slotSet 0) : (kvM.access r : View sig .tc _ _ _).setOn Finset.univ ⊆ slotSet 0 := by
  rw [View.setOn_univ, acc_set]; exact h

/-- A unit to a neighbour's barrier, with what it pays. -/
theorem wp_sig (X : Dev nD → Blk F) (K : GSem nD τ sig → ℕ) (c n n' : Dev nD) (hn : n = n') (b : Bool) {P : sProp 𝕄} (hP : P = if b then barPayB n' else barPayF n') {O₁ : CellTallies nD τ sig Unit} (O : CellTallies nD τ sig Unit)
    (hO : O₁ = O + tallyAt (barC n') () 1) {W : Waits sig Unit} {α : Type} {Q : α → sProp 𝕄} {kk : PUnit → Prog (TpuEff nD τ sig (Elt F) Λ₀ .tc) α} :
    iprop(cellInv ER (Rd X) (K (barC n')) (barC n') ∗ owes (c : Thread nD τ) O₁ W ∗ dutyTok ER (barC n') 0 b
        ∗ P ∗ reached ER (barC n') 0)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toInt) kk) Q) := by
  subst hn; subst hP
  exact Rounds.wp_signal 𝒱₀ ER (Rd X) (c : Thread nD τ) none (dst := (n : Thread nD τ)) (κ := K (barC n)) (duty_bar_mem X n b) rfl () O hO

/-! ## The attention's reads and writes -/

abbrev kvR (p o : ℕ) (h : ∀ a, (![p, 0, 0, 0, o, 0] : Fin 6 → ℕ) a + S1x2x4x32x64x64.size a ≤ S2x2x4x32x256x64.size a) : Rect S2x2x4x32x256x64 :=
  Rect.unit (s := S2x2x4x32x256x64) ![p, 0, 0, 0, o, 0] S1x2x4x32x64x64.size h
theorem kv_inb {p o : ℕ} (hp : p < 2) (ho : o + 64 ≤ 256) : ∀ a, (![p, 0, 0, 0, o, 0] : Fin 6 → ℕ) a + S1x2x4x32x64x64.size a ≤ S2x2x4x32x256x64.size a := by
  intro a
  fin_cases a
  · show p + 1 ≤ 2; omega
  · show 0 + 2 ≤ 2; omega
  · show 0 + 4 ≤ 4; omega
  · show 0 + 32 ≤ 32; omega
  · show o + 64 ≤ 256; omega
  · show 0 + 64 ≤ 64; omega
/-- The keys (p = 0) or values (p = 1) of the 64 positions from o on, of every slot. -/
def kvLd (X : Dev nD → Blk F) (c : Dev nD) (p o : ℕ) (hp : p < 2) (ho : o + 64 ≤ 256) : Vec F S1x2x4x32x64x64 .bf16 :=
  kvM.view.readAt (Elt F) (kvR p o (kv_inb hp ho)).toLoadRect (G X c)

abbrev ctxM : Memref sig .tc .vmem S2x4x256x64 .f32 := Memref.whole cc0_scratch1
theorem ctx_inb {o : ℕ} (ho : o + 64 ≤ 256) : ∀ a, (![0, 0, o, 0] : Fin 4 → ℕ) a + S2x4x64x64.size a ≤ S2x4x256x64.size a := by
  intro a
  fin_cases a
  · show 0 + 2 ≤ 2; omega
  · show 0 + 4 ≤ 4; omega
  · show o + 64 ≤ 256; omega
  · show 0 + 64 ≤ 64; omega
abbrev ctxR (o : ℕ) (ho : o + 64 ≤ 256) : Rect S2x4x256x64 := Rect.unit (s := S2x4x256x64) ![0, 0, o, 0] S2x4x64x64.size (ctx_inb ho)
/-- The rows from o on written. -/
def ctxWr (o : ℕ) (ho : o + 64 ≤ 256) (f : Vec F S2x4x256x64 .f32) (w : Vec F S2x4x64x64 .f32) : Vec F S2x4x256x64 .f32 :=
  (ctxM.access (ctxR o ho) : View sig .tc _ _ _).write (Elt F) f w Finset.univ

/-- The row of a block of 64. -/
def row (i : S2x4x256x64.Idx) : S2x4x64x64.Idx := fun
  | 0 => i 0 | 1 => i 1 | 2 => ⟨(i 2).val % 64, Nat.mod_lt _ (by decide)⟩ | 3 => i 3
  | ⟨n + 4, h⟩ => absurd h (by show ¬ n + 4 < 4; omega)
/-- Four blocks of 64 rows put together. -/
def stack (w : ℕ → Vec F S2x4x64x64 .f32) : Vec F S2x4x256x64 .f32 := fun i => w ((i 2).val / 64) (row i)

theorem ctxR_emb (n : ℕ) (ho : n * 64 + 64 ≤ 256) (i : S2x4x256x64.Idx) (h : (i 2).val / 64 = n) : (ctxR (n * 64) ho).emb (row i) = i := by
  funext a
  apply Fin.ext
  fin_cases a
  · show 0 + 1 * (i 0).val = (i 0).val; omega
  · show 0 + 1 * (i 1).val = (i 1).val; omega
  · show n * 64 + 1 * ((i 2).val % 64) = (i 2).val; omega
  · show 0 + 1 * (i 3).val = (i 3).val; omega
theorem ctxWr_in (n : ℕ) (ho : n * 64 + 64 ≤ 256) (f : Vec F S2x4x256x64 .f32) (w : Vec F S2x4x64x64 .f32) (i : S2x4x256x64.Idx) (h : (i 2).val / 64 = n) :
    ctxWr (n * 64) ho f w i = w (row i) := by
  have e := View.write_emb_of_mem (Val := Elt F) (v := (ctxM.access (ctxR (n * 64) ho) : View sig .tc _ _ _)) f w (Finset.mem_univ (row i))
  rw [show (ctxM.access (ctxR (n * 64) ho) : View sig .tc _ _ _).emb (row i) = i from ctxR_emb n ho i h] at e
  exact e
theorem ctxWr_out (n : ℕ) (ho : n * 64 + 64 ≤ 256) (f : Vec F S2x4x256x64 .f32) (w : Vec F S2x4x64x64 .f32) (i : S2x4x256x64.Idx) (h : (i 2).val / 64 ≠ n) :
    ctxWr (n * 64) ho f w i = f i := by
  refine View.write_of_not_mem (v := (ctxM.access (ctxR (n * 64) ho) : View sig .tc _ _ _)) _ _ _ ?_
  rw [View.setOn_univ, show (ctxM.access (ctxR (n * 64) ho) : View sig .tc _ _ _).set = (ctxR (n * 64) ho).set from View.set_slice_whole cc0_scratch1 _]
  intro hm
  have h2 := (Rect.mem_set_unit.mp hm) 2
  have ha : n * 64 ≤ (i 2).val := h2.1
  have hb : (i 2).val < n * 64 + 64 := h2.2
  omega
/-- Every row is written by one of the four stores. -/
theorem ctx_all (f : Vec F S2x4x256x64 .f32) (w : ℕ → Vec F S2x4x64x64 .f32) :
    ctxWr 192 (by decide) (ctxWr 128 (by decide) (ctxWr 64 (by decide) (ctxWr 0 (by decide) f (w 0)) (w 1)) (w 2)) (w 3) = stack w := by
  funext i
  have hi : (i 2).val < 256 := (i 2).isLt
  unfold stack
  have h4 : (i 2).val / 64 = 0 ∨ (i 2).val / 64 = 1 ∨ (i 2).val / 64 = 2 ∨ (i 2).val / 64 = 3 := by omega
  rcases h4 with h | h | h | h <;> rw [h]
  · rw [ctxWr_out 3 _ _ _ i (by omega), ctxWr_out 2 _ _ _ i (by omega), ctxWr_out 1 _ _ _ i (by omega), ctxWr_in 0 _ _ _ i h]
  · rw [ctxWr_out 3 _ _ _ i (by omega), ctxWr_out 2 _ _ _ i (by omega), ctxWr_in 1 _ _ _ i h]
  · rw [ctxWr_out 3 _ _ _ i (by omega), ctxWr_in 2 _ _ _ i h]
  · rw [ctxWr_in 3 _ _ _ i h]

/-- The scaled queries, the four blocks of rows, and the result, of device c. -/
def qAt (J : Dev nD → Ins F) (c : Dev nD) : FVec F S8x256x64 .bf16 := k0_pay5 (k0_pay3 (J c).x) (k0_pay4 (J c).wq)
def ctxAt (J : Dev nD → Ins F) (c : Dev nD) : ℕ → Vec F S2x4x64x64 .f32
  | 0 => k0_pay6 (qAt J c) (kvLd (blk J) c 0 0 (by decide) (by decide)) (kvLd (blk J) c 1 0 (by decide) (by decide))
  | 1 => k0_pay9 (k0_pay7 (qAt J c)) (k0_pay8 (kvLd (blk J) c 0 64 (by decide) (by decide))) (kvLd (blk J) c 1 64 (by decide) (by decide))
  | 2 => k0_pay13 (k0_pay10 (kvLd (blk J) c 1 128 (by decide) (by decide))) (k0_pay11 (qAt J c) (kvLd (blk J) c 0 128 (by decide) (by decide)))
      (k0_pay12 (qAt J c) (kvLd (blk J) c 0 128 (by decide) (by decide)))
  | _ => k0_pay15 (k0_pay14 (qAt J c) (kvLd (blk J) c 0 192 (by decide) (by decide)) (kvLd (blk J) c 1 192 (by decide) (by decide)))
def outAt (J : Dev nD → Ins F) (c : Dev nD) : Vec F S2x256x512 .f32 := k0_pay16 (stack (ctxAt J c)) (J c).wo

/-- A store into the rows from o on. -/
theorem wp_ctx (c : Dev nD) (o : ℕ) (ho : o + 64 ≤ 256) (f : Vec F S2x4x256x64 .f32) (w : Vec F S2x4x64x64 .f32)
    {hx : (ctxM.access (ctxR o ho) : View sig .tc _ _ _).Stores Finset.univ} {hm : Finset.univ = Finset.univ ∨ ∀ a, (ctxR o ho).stride a = 1}
    {α : Type} {Q : α → sProp 𝕄} {kk : PUnit → Prog (TpuEff nD τ sig (Elt F) Λ₀ .tc) α} :
    stPt c cc0_scratch1 f
      ⊢ iprop((stPt c cc0_scratch1 (ctxWr o ho f w) -∗ wp frame (wpE (defs₀ (F := F)) 𝒱₀ (c : Thread nD τ) none) Set.univ (kk ⟨⟩) Q)
          -∗ wp frame (wpE (defs₀ (F := F)) 𝒱₀ (c : Thread nD τ) none) Set.univ (.op (.store ctxM (ctxR o ho) w Finset.univ hx hm) kk) Q) :=
  wp_store 𝒱₀ (c : Thread nD τ) none Set.univ (m := ctxM) (r := ctxR o ho) (Mk := Finset.univ) (Finset.subset_univ _)

abbrev outR : Rect S2x256x512 := Rect.unit (s := S2x256x512) ![0, 0, 0] S2x256x512.size inb_S2x256x512_S2x256x512_0_0_0
/-- The store of the result. -/
theorem wp_out (c : Dev nD) (g w : Vec F S2x256x512 .f32)
    {hx : ((Memref.whole cc0_stg7_0).access outR : View sig .tc _ _ _).Stores Finset.univ} {hm : Finset.univ = Finset.univ ∨ ∀ a, outR.stride a = 1}
    {α : Type} {Q : α → sProp 𝕄} {kk : PUnit → Prog (TpuEff nD τ sig (Elt F) Λ₀ .tc) α} :
    stPt c cc0_stg7_0 g
      ⊢ iprop((stPt c cc0_stg7_0 w -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_stg7_0) outR w Finset.univ hx hm) kk) Q) := by
  have e : ((Memref.whole cc0_stg7_0).access outR : View sig .tc _ _ _).write (Elt F) g w Finset.univ = w := Memref.write_access_unit_zero_univ (Elt F) cc0_stg7_0 hz3 _ g w
  have h : (stPt c cc0_stg7_0 g : sProp 𝕄) ⊢ iprop((stPt c cc0_stg7_0 (((Memref.whole cc0_stg7_0).access outR : View sig .tc _ _ _).write (Elt F) g w Finset.univ) -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_stg7_0) outR w Finset.univ hx hm) kk) Q) :=
    wp_store 𝒱₀ (c : Thread nD τ) none Set.univ (m := (Memref.whole cc0_stg7_0)) (r := outR) (Mk := Finset.univ) (Finset.subset_univ _)
  rw [e] at h
  exact h

section Ends

variable (J : Dev nD → Ins F) (K : GSem nD τ sig → ℕ)
variable {I : sProp (MT nD τ sig Unit (Elt F) ℕ UU ℕ)} [BI.Persistent I] (hI : Recs (blk J) K I) (c : Dev nD)
include hI

/-- The barrier, both ways, and the device's own block. -/
theorem op1 (f : KV F c) {Q : (Σ' (v0 : Elt F .i32) (k0_hw2 : k0_chk2 v0) (v1 : Elt F .i32), k0_chk1 v1) → sProp 𝕄} :
    iprop(I ∗ levAts L lv ∗ barIn c ∗ (∃ W, owes (c : Thread nD τ) (O₀ c) W) ∗ stPt c cc0_stg5_0 (fun _ => nw c) ∗ stPt c cc0_stg6_0 (fun _ => pw c)
        ∗ stPt c cc0_stg2_0 (J c).k ∗ stPt c cc0_stg3_0 (J c).v ∗ kvPt c fullShare f)
      ⊢ iprop(((barPayF c ∗ barPayB c ∗ atPos ER (barC c) 1 ∅ 0 ∗ OWE c 0 0 ∗ stPt c cc0_stg5_0 (fun _ => nw c) ∗ stPt c cc0_stg6_0 (fun _ => pw c)
            ∗ stPt c cc0_stg2_0 (J c).k ∗ stPt c cc0_stg3_0 (J c).v ∗ slotPt c 0 fullShare (G (blk J) c))
          -∗ Q ⟨nw c, chk_nw c, pw c, chk_pw c⟩) -∗ wp frame (wpE (defs₀ (F := F)) 𝒱₀ (c : Thread nD τ) none) Set.univ
          (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  rw [k0_part1_eq_skeleton]; unfold k0_part1_skel
  simp only [semSignalWord, semWaitWord, smemLoad, smemLoadElt, Prog.lift, Prog.bind_op, Prog.bind_ret, Prog.pure_eq_ret, Prog.bind_assoc]
  rw [kv_cut]
  unfold barIn
  iintro ⟨#HI, #Hlev, ⟨#HrF, #HrB, ⟨HtP, #HrP⟩, ⟨HtN, #HrN⟩, Hc, Hat⟩, ⟨%W, HO⟩, H5, H6, H2, H3, ⟨Hs0, HsF, HsB⟩⟩
  iintro Hk
  iapply (wp_word5 c (nw c)) $$ H5; iintro H5
  beta_reduce
  rw [wp_assume_of _ _ _ _ (d := k0_chk2.dec _) (chk_nw c)]
  iapply (wp_word6 c (pw c)) $$ H6; iintro H6
  beta_reduce
  rw [wp_assume_of _ _ _ _ (d := k0_chk1.dec _) (chk_pw c)]
  iapply (wp_sig (blk J) K c _ (prv c) (Fin.ext (dev_pw c)) false (P := barPayF (prv c)) rfl (OW c 0 0 + tallyAt (barC (nxt c)) () 1) rfl) $$ [HO HtP HsF]
  · isplitr; · iapply (hI.bar (prv c)); iexact HI
    isplitl [HO]; · iexact HO
    isplitl [HtP]; · iexact HtP
    isplitl [HsF]
    · iapply (payF_intro c f); isplitl [HsF]; · iexact HsF
      iexact HrF
    iexact HrP
  iintro HO
  iapply (wp_sig (blk J) K c _ (nxt c) (Fin.ext (dev_nw c)) true (P := barPayB (nxt c)) rfl (OW c 0 0) rfl) $$ [HO HtN HsB]
  · isplitr; · iapply (hI.bar (nxt c)); iexact HI
    isplitl [HO]; · iexact HO
    isplitl [HtN]; · iexact HtN
    isplitl [HsB]
    · iapply (payB_intro c f); isplitl [HsB]; · iexact HsB
      iexact HrB
    iexact HrN
  iintro HO
  iapply (Rounds.wp_wait_rest_token 𝒱₀ ER (Rd (blk J)) (c : Thread nD τ) none (κ := K (barC c))
      (wpE_semWait_eq 𝒱₀ (c : Thread nD τ) none Set.univ) (Set.mem_univ _) () (O := OW c 0 0) (W := W) (R := 0) (m := 0) (T := ∅)
      (by rw [expect_bar]; decide)) $$ [Hc HO Hat]
  · isplitr; · iapply (hI.bar c); iexact HI
    isplitl [Hc]; · iexact Hc
    isplitl [HO]; · iexact HO
    isplitr; · iapply (mayWait c (.reg barS) 0 0 (by rw [lv_bar]; decide) (by rw [lv_bar]; decide)); iexact Hlev
    iexact Hat
  iintro ⟨HO, Hat, -, Hpay⟩
  ihave Hp := (Entails.of_eq (rest_bar (blk J) c)) $$ Hpay
  icases Hp with ⟨HpF, HpB⟩
  iapply (wp_ld c (Memref.whole cc0_stg2_0) _ (J c).k (J c).k (Memref.readAt_unit_zero (Elt F) cc0_stg2_0 hz4 _ _)) $$ H2; iintro H2
  iapply (wp_load 𝒱₀ (c : Thread nD τ) none Set.univ (m := kvM) (rd_sub rK_sub)) $$ Hs0; iintro Hs0
  iapply (wp_store 𝒱₀ (c : Thread nD τ) none Set.univ (m := kvM) (r := rK) (Mk := Finset.univ) (wr_sub rK_sub)) $$ Hs0; iintro Hs0
  iapply (wp_ld c (Memref.whole cc0_stg3_0) _ (J c).v (J c).v (Memref.readAt_unit_zero (Elt F) cc0_stg3_0 hz4 _ _)) $$ H3; iintro H3
  iapply (wp_load 𝒱₀ (c : Thread nD τ) none Set.univ (m := kvM) (rd_sub rV_sub)) $$ Hs0; iintro Hs0
  iapply (wp_store 𝒱₀ (c : Thread nD τ) none Set.univ (m := kvM) (r := rV) (Mk := Finset.univ) (wr_sub rV_sub)) $$ Hs0; iintro Hs0
  ihave Hs0 := (Entails.of_eq (pointsTo_congr (stored J c f))) $$ Hs0
  rw [wp_ret]; imodintro
  iapply Hk
  isplitl [HpF]; · iexact HpF
  isplitl [HpB]; · iexact HpB
  isplitl [Hat]; · iexact Hat
  isplitl [HO]; · unfold OWE; iexists _; iexact HO
  isplitl [H5]; · iexact H5
  isplitl [H6]; · iexact H6
  isplitl [H2]; · iexact H2
  isplitl [H3]; · iexact H3
  iexact Hs0

/-- The first copy each way, and the queries' inputs. -/
theorem op2  {Q : (Σ' (v41 : FVec F S512x512 .bf16), FVec F S512x256 .bf16) → sProp 𝕄} :
    iprop(I ∗ FS (blk J) c 0 0 ∗ BS (blk J) c 0 0 ∗ OWE c 0 0 ∗ slotPt c 0 fullShare (G (blk J) c) ∗ stPt c cc0_stg0_0 (J c).x ∗ stPt c cc0_stg1_0 (J c).wq)
      ⊢ iprop(((FS (blk J) c 1 0 ∗ BS (blk J) c 1 0 ∗ OWE c 1 1 ∗ slotPt c 0 fullShare.left (G (blk J) c) ∗ stPt c cc0_stg0_0 (J c).x ∗ stPt c cc0_stg1_0 (J c).wq) -∗ Q ⟨k0_pay3 (J c).x, k0_pay4 (J c).wq⟩) -∗ wp frame (wpE (defs₀ (F := F)) 𝒱₀ (c : Thread nD τ) none) Set.univ
          (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (nw c) (chk_nw c) (pw c) (chk_pw c)) Q) := by
  rw [k0_part2_eq_skeleton]; unfold k0_part2_skel
  simp only [Prog.lift, Prog.bind_op, Prog.bind_ret, Prog.pure_eq_ret, Prog.bind_assoc]
  iintro ⟨#HI, HFS, HBS, HO, Hs, H0, H1⟩
  iintro Hk
  ihave Hs := (slot_halves c 0 fullShare (G (blk J) c)).1 $$ Hs
  icases Hs with ⟨Hl, Hr⟩
  ihave Hr := (slot_halves c 0 fullShare.right (G (blk J) c)).1 $$ Hr
  icases Hr with ⟨Hf, Hb⟩
  ihave Hf := (Entails.of_eq (by rw [shF_zero] : (slotPt c 0 fullShare.right.left (G (blk J) c) : sProp 𝕄) = slotPt c 0 (shF 0) (G (blk J) c))) $$ Hf
  ihave Hb := (Entails.of_eq (by rw [shB_zero] : (slotPt c 0 fullShare.right.right (G (blk J) c) : sProp 𝕄) = slotPt c 0 (shB 0) (G (blk J) c))) $$ Hb
  iapply (wp_send_f (blk J) K hI c _ (Fin.ext (dev_nw c)) 0 0 0 1 (by decide) rfl rfl (by decide) (by decide)) $$ [HFS Hf HO]
  · isplitr; · iexact HI
    isplitl [HFS]; · iexact HFS
    isplitl [Hf]; · iexact Hf
    iexact HO
  iintro ⟨HFS, HO⟩
  iapply (wp_send_b (blk J) K hI c _ (Fin.ext (dev_pw c)) 1 0 0 17 (by decide) rfl rfl (by decide) (by decide)) $$ [HBS Hb HO]
  · isplitr; · iexact HI
    isplitl [HBS]; · iexact HBS
    isplitl [Hb]; · iexact Hb
    iexact HO
  iintro ⟨HBS, HO⟩
  iapply (wp_ld c (Memref.whole cc0_stg0_0) _ (J c).x (J c).x (Memref.readAt_unit_zero (Elt F) cc0_stg0_0 hz3 _ _)) $$ H0; iintro H0
  iapply (wp_ld c (Memref.whole cc0_stg1_0) _ (J c).wq (J c).wq (Memref.readAt_unit_zero (Elt F) cc0_stg1_0 hz2 _ _)) $$ H1; iintro H1
  rw [wp_ret]; imodintro
  iapply Hk
  isplitl [HFS]; · iexact HFS
  isplitl [HBS]; · iexact HBS
  isplitl [HO]; · iexact HO
  isplitl [Hl]; · iexact Hl
  isplitl [H0]; · iexact H0
  iexact H1

/-- The last slot comes in; the first 64 rows. -/
theorem op29 (f : Vec F S2x4x256x64 .f32) {Q : (Σ' (v612 : FVec F S8x64x64 .bf16), FVec F S2x4x32x64x64 .bf16) → sProp 𝕄} :
    iprop(I ∗ levAts L lv ∗ (ST (blk J) c 16 15 16 14 ∗ slotPt c 16 fullShare.right (G (blk J) c)) ∗ slotPt c 0 fullShare.left (G (blk J) c) ∗ stPt c cc0_scratch1 f)
      ⊢ iprop(((FS (blk J) c 16 0 ∗ BS (blk J) c 15 0 ∗ OWE c 16 15 ∗ (atFR c ∗ atBR c) ∗ slotPt c 16 fullShare.right (G (blk J) c) ∗ slotPt c 31 fullShare.right (G (blk J) c) ∗ kvPt c fullShare.left (G (blk J) c) ∗ stPt c cc0_scratch1 (ctxWr 0 (by decide) f (ctxAt J c 0))) -∗ Q ⟨k0_pay7 (qAt J c), k0_pay8 (kvLd (blk J) c 0 64 (by decide) (by decide))⟩) -∗ wp frame (wpE (defs₀ (F := F)) 𝒱₀ (c : Thread nD τ) none) Set.univ
          (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (qAt J c)) Q) := by
  rw [k0_part29_eq_skeleton]; unfold k0_part29_skel
  simp only [Prog.lift, Prog.bind_op, Prog.bind_ret, Prog.pure_eq_ret, Prog.bind_assoc]
  unfold ST
  iintro ⟨#HI, #Hlev, ⟨⟨HFS, HBS, HFR, HBR, HO⟩, H16⟩, H0, Hctx⟩
  iintro Hk
  ihave HO := (Entails.of_eq (OWE_end c)) $$ HO
  iapply (wp_wait_br (blk J) K hI c 14 16 16 (by decide) (by decide) (by decide) 30 31 (by decide) (by decide)) $$ [HBR HO]
  · isplitr; · iexact HI
    isplitr; · iexact Hlev
    isplitl [HBR]; · iexact HBR
    iexact HO
  iintro ⟨HBR, H31, HO⟩
  ihave HO := (Entails.of_eq (OWE_end c).symm) $$ HO
  ihave Hg := (gather (blk J) c) $$ [HFR HBR H0]
  · isplitl [HFR]; · iexact HFR
    isplitl [HBR]; · iexact HBR
    iexact H0
  icases Hg with ⟨Hat, Hkv⟩
  iapply (wp_ld c kvM (kvR 0 0 (kv_inb (by decide) (by decide))).toLoadRect (G (blk J) c) (kvLd (blk J) c 0 0 (by decide) (by decide)) rfl) $$ Hkv; iintro Hkv
  iapply (wp_ld c kvM (kvR 1 0 (kv_inb (by decide) (by decide))).toLoadRect (G (blk J) c) (kvLd (blk J) c 1 0 (by decide) (by decide)) rfl) $$ Hkv; iintro Hkv
  iapply (wp_load 𝒱₀ (c : Thread nD τ) none Set.univ (m := ctxM) (Finset.subset_univ _)) $$ Hctx; iintro Hctx
  iapply (wp_ctx c 0 (by decide) _ _) $$ Hctx; iintro Hctx
  iapply (wp_ld c kvM (kvR 0 64 (kv_inb (by decide) (by decide))).toLoadRect (G (blk J) c) (kvLd (blk J) c 0 64 (by decide) (by decide)) rfl) $$ Hkv; iintro Hkv
  rw [wp_ret]; imodintro
  iapply Hk
  isplitl [HFS]; · iexact HFS
  isplitl [HBS]; · iexact HBS
  isplitl [HO]; · iexact HO
  isplitl [Hat]; · iexact Hat
  isplitl [H16]; · iexact H16
  isplitl [H31]; · iexact H31
  isplitl [Hkv]; · iexact Hkv
  iexact Hctx

omit hI in
/-- The second 64 rows. -/
theorem op30 (f : Vec F S2x4x256x64 .f32) {Q : (Σ' (v641 : FVec F S8x2048x64 .bf16) (v642 : FVec F S8x64x2048 .f32), FVec F S8x64x2048 .f32) → sProp 𝕄} :
    iprop(kvPt c fullShare.left (G (blk J) c) ∗ stPt c cc0_scratch1 f)
      ⊢ iprop(((kvPt c fullShare.left (G (blk J) c) ∗ stPt c cc0_scratch1 (ctxWr 64 (by decide) f (ctxAt J c 1))) -∗ Q ⟨k0_pay10 (kvLd (blk J) c 1 128 (by decide) (by decide)), k0_pay11 (qAt J c) (kvLd (blk J) c 0 128 (by decide) (by decide)), k0_pay12 (qAt J c) (kvLd (blk J) c 0 128 (by decide) (by decide))⟩) -∗ wp frame (wpE (defs₀ (F := F)) 𝒱₀ (c : Thread nD τ) none) Set.univ
          (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (qAt J c) (k0_pay7 (qAt J c)) (k0_pay8 (kvLd (blk J) c 0 64 (by decide) (by decide)))) Q) := by
  rw [k0_part30_eq_skeleton]; unfold k0_part30_skel
  simp only [Prog.lift, Prog.bind_op, Prog.bind_ret, Prog.pure_eq_ret, Prog.bind_assoc]
  iintro ⟨Hkv, Hctx⟩
  iintro Hk
  iapply (wp_ld c kvM (kvR 1 64 (kv_inb (by decide) (by decide))).toLoadRect (G (blk J) c) (kvLd (blk J) c 1 64 (by decide) (by decide)) rfl) $$ Hkv; iintro Hkv
  iapply (wp_load 𝒱₀ (c : Thread nD τ) none Set.univ (m := ctxM) (Finset.subset_univ _)) $$ Hctx; iintro Hctx
  iapply (wp_ctx c 64 (by decide) _ _) $$ Hctx; iintro Hctx
  iapply (wp_ld c kvM (kvR 0 128 (kv_inb (by decide) (by decide))).toLoadRect (G (blk J) c) (kvLd (blk J) c 0 128 (by decide) (by decide)) rfl) $$ Hkv; iintro Hkv
  iapply (wp_ld c kvM (kvR 1 128 (kv_inb (by decide) (by decide))).toLoadRect (G (blk J) c) (kvLd (blk J) c 1 128 (by decide) (by decide)) rfl) $$ Hkv; iintro Hkv
  rw [wp_ret]; imodintro
  iapply Hk
  isplitl [Hkv]; · iexact Hkv
  iexact Hctx

omit hI in
/-- The third 64 rows. -/
theorem op31 (f : Vec F S2x4x256x64 .f32) {Q : (Σ' (v677 : FVec F S2x4x64x64 .f32), Vec F S2x4x64x64 .f32) → sProp 𝕄} :
    iprop(kvPt c fullShare.left (G (blk J) c) ∗ stPt c cc0_scratch1 f)
      ⊢ iprop((∀ z, (kvPt c fullShare.left (G (blk J) c) ∗ stPt c cc0_scratch1 (ctxWr 128 (by decide) f (ctxAt J c 2))) -∗ Q ⟨k0_pay14 (qAt J c) (kvLd (blk J) c 0 192 (by decide) (by decide)) (kvLd (blk J) c 1 192 (by decide) (by decide)), z⟩) -∗ wp frame (wpE (defs₀ (F := F)) 𝒱₀ (c : Thread nD τ) none) Set.univ
          (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (qAt J c) (k0_pay10 (kvLd (blk J) c 1 128 (by decide) (by decide))) (k0_pay11 (qAt J c) (kvLd (blk J) c 0 128 (by decide) (by decide))) (k0_pay12 (qAt J c) (kvLd (blk J) c 0 128 (by decide) (by decide)))) Q) := by
  rw [k0_part31_eq_skeleton]; unfold k0_part31_skel
  simp only [Prog.lift, Prog.bind_op, Prog.bind_ret, Prog.pure_eq_ret, Prog.bind_assoc]
  iintro ⟨Hkv, Hctx⟩
  iintro Hk
  iapply (wp_load 𝒱₀ (c : Thread nD τ) none Set.univ (m := ctxM) (Finset.subset_univ _)) $$ Hctx; iintro Hctx
  iapply (wp_ctx c 128 (by decide) _ _) $$ Hctx; iintro Hctx
  iapply (wp_ld c kvM (kvR 0 192 (kv_inb (by decide) (by decide))).toLoadRect (G (blk J) c) (kvLd (blk J) c 0 192 (by decide) (by decide)) rfl) $$ Hkv; iintro Hkv
  iapply (wp_ld c kvM (kvR 1 192 (kv_inb (by decide) (by decide))).toLoadRect (G (blk J) c) (kvLd (blk J) c 1 192 (by decide) (by decide)) rfl) $$ Hkv; iintro Hkv
  iapply (wp_load 𝒱₀ (c : Thread nD τ) none Set.univ (m := ctxM) (Finset.subset_univ _)) $$ Hctx; iintro Hctx
  rw [wp_ret]; imodintro
  iapply Hk $$ %_
  isplitl [Hkv]; · iexact Hkv
  iexact Hctx

/-- The last 64 rows, the product with the output weights, and the first read-out. -/
theorem op32 (f : Vec F S2x4x256x64 .f32) (z : Vec F S2x4x64x64 .f32) (g : Vec F S2x256x512 .f32) {Q : (PUnit) → sProp 𝕄} :
    iprop(I ∗ levAts L lv ∗ FS (blk J) c 16 0 ∗ OWE c 16 15 ∗ stPt c cc0_scratch1 (ctxWr 128 (by decide) (ctxWr 64 (by decide) (ctxWr 0 (by decide) f (ctxAt J c 0)) (ctxAt J c 1)) (ctxAt J c 2)) ∗ stPt c cc0_stg4_0 (J c).wo ∗ stPt c cc0_stg7_0 g)
      ⊢ iprop(((FS (blk J) c 16 1 ∗ OWE c 16 15 ∗ stPt c cc0_scratch1 (stack (ctxAt J c)) ∗ stPt c cc0_stg4_0 (J c).wo ∗ stPt c cc0_stg7_0 (outAt J c)) -∗ Q ⟨⟩) -∗ wp frame (wpE (defs₀ (F := F)) 𝒱₀ (c : Thread nD τ) none) Set.univ
          (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 (k0_pay14 (qAt J c) (kvLd (blk J) c 0 192 (by decide) (by decide)) (kvLd (blk J) c 1 192 (by decide) (by decide))) z) Q) := by
  rw [k0_part32_eq_skeleton]; unfold k0_part32_skel
  simp only [Prog.lift, Prog.bind_op, Prog.bind_ret, Prog.pure_eq_ret, Prog.bind_assoc]
  iintro ⟨#HI, #Hlev, HFS, HO, Hctx, H4, H7⟩
  iintro Hk
  iapply (wp_ctx c 192 (by decide) _ (ctxAt J c 3)) $$ Hctx; iintro Hctx
  ihave Hctx := (Entails.of_eq (congrArg (fun x => (stPt c cc0_scratch1 x : sProp 𝕄)) (ctx_all f (ctxAt J c)))) $$ Hctx
  iapply (wp_ld c ctxM _ (stack (ctxAt J c)) (stack (ctxAt J c)) (Memref.readAt_unit_zero (Elt F) cc0_scratch1 hz4 _ _)) $$ Hctx; iintro Hctx
  iapply (wp_ld c (Memref.whole cc0_stg4_0) _ (J c).wo (J c).wo (Memref.readAt_unit_zero (Elt F) cc0_stg4_0 hz2 _ _)) $$ H4; iintro H4
  iapply (wp_ld c (Memref.whole cc0_stg7_0) _ g g (Memref.readAt_unit_zero (Elt F) cc0_stg7_0 hz3 _ _)) $$ H7; iintro H7
  iapply (wp_out c g _) $$ H7; iintro H7
  iapply (wp_wait_fs (blk J) K hI c 0 (by decide) 1 0 (by decide) (by decide)) $$ [HFS HO]
  · isplitr; · iexact HI
    isplitr; · iexact Hlev
    isplitl [HFS]; · iexact HFS
    iexact HO
  iintro ⟨HFS, HO⟩
  rw [wp_ret]; imodintro
  iapply Hk
  isplitl [HFS]; · iexact HFS
  isplitl [HO]; · iexact HO
  isplitl [Hctx]; · iexact Hctx
  isplitl [H4]; · iexact H4
  iexact H7

end Ends

end Cert.Proof

end
-- ==== Proof.Run.lean ====
/-
  The body put together: its parts one after another, and at the end every cell closed with its counter at zero and every
  buffer back in one piece.
-/
module

public import proofs.«01_k».proof.Proof.Ends

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The buffers the kernel's windows stage, holding device c's inputs, the neighbours' numbers, and g. -/
def stages (J : Dev nD → Ins F) (c : Dev nD) (g : Vec F S2x256x512 .f32) : sProp 𝕄 :=
  iprop(stPt c cc0_stg0_0 (J c).x ∗ stPt c cc0_stg1_0 (J c).wq ∗ stPt c cc0_stg2_0 (J c).k ∗ stPt c cc0_stg3_0 (J c).v ∗ stPt c cc0_stg4_0 (J c).wo ∗ stPt c cc0_stg5_0 (fun _ => nw c) ∗ stPt c cc0_stg6_0 (fun _ => pw c) ∗ stPt c cc0_stg7_0 g)

/-- What a device starts its body with. -/
def runPre (J : Dev nD → Ins F) (c : Dev nD) : sProp 𝕄 :=
  iprop(barIn c ∗ (∃ W, owes (c : Thread nD τ) (O₀ c) W) ∗ (tokF c ∗ tokB c) ∗ (FR (blk J) c 0 ∗ BR (blk J) c 0)
    ∗ (∃ f, kvPt c fullShare f) ∗ (∃ f, stPt c cc0_scratch1 f) ∗ ∃ g, stages J c g)

/-- Of what it holds towards the end, the part the last waits do not touch. -/
def runTail (J : Dev nD → Ins F) (c : Dev nD) : sProp 𝕄 :=
  iprop((atFR c ∗ atBR c) ∗ atPos ER (barC c) 1 ∅ 0
    ∗ slotPt c 16 fullShare.right (G (blk J) c) ∗ slotPt c 31 fullShare.right (G (blk J) c) ∗ kvPt c fullShare.left (G (blk J) c)
    ∗ stPt c cc0_scratch1 (stack (ctxAt J c)) ∗ stages J c (outAt J c))
/-- What it holds once its last copies but 15 - w have been waited for. -/
def runMid (J : Dev nD → Ins F) (c : Dev nD) (w : ℕ) : sProp 𝕄 :=
  iprop(FS (blk J) c 16 16 ∗ BS (blk J) c 15 w ∗ OWE c 16 15 ∗ runTail J c)

section Run
variable (J : Dev nD → Ins F) (K : GSem nD τ sig → ℕ) {I : sProp (MT nD τ sig Unit (Elt F) ℕ UU ℕ)} [BI.Persistent I] (hI : Recs (blk J) K I) (c : Dev nD)

set_option maxHeartbeats 2000000 in
include hI in
/-- All the parts but the last waits. -/
theorem run43 {Q : PUnit → sProp 𝕄} :
    iprop(I ∗ levAts L lv ∗ runPre J c)
      ⊢ iprop((runMid J c 13 -∗ Q ⟨⟩) -∗ wp frame (wpE (defs₀ (F := F)) 𝒱₀ (c : Thread nD τ) none) Set.univ
          (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  unfold runPre stages
  iintro ⟨#HI, #Hlev, Hbar, HO, ⟨HtF, HtB⟩, ⟨HFR, HBR⟩, ⟨%f, Hkv⟩, ⟨%fc, Hctx⟩, %g, H0, H1, H2, H3, H4, H5, H6, H7⟩
  iintro Hk
  rw [k0_part43_eq_skeleton]; unfold k0_part43_skel
  rw [wp_bind]
  iapply (op1 J K hI c f) $$ [Hbar HO H5 H6 H2 H3 Hkv]
  · isplitr; · iexact HI
    isplitr; · iexact Hlev
    isplitl [Hbar]; · iexact Hbar
    isplitl [HO]; · iexact HO
    isplitl [H5]; · iexact H5
    isplitl [H6]; · iexact H6
    isplitl [H2]; · iexact H2
    isplitl [H3]; · iexact H3
    iexact Hkv
  iintro ⟨HpF, HpB, HatB, HO, H5, H6, H2, H3, Hs0⟩
  ihave HFS := (FS_init (blk J) c) $$ [HpF HtF]
  · isplitl [HpF]; · iexact HpF
    iexact HtF
  ihave HBS := (BS_init (blk J) c) $$ [HpB HtB]
  · isplitl [HpB]; · iexact HpB
    iexact HtB
  try dsimp only
  rw [wp_bind]
  iapply (op2 J K hI c) $$ [HFS HBS HO Hs0 H0 H1]
  · isplitr; · iexact HI
    isplitl [HFS]; · iexact HFS
    isplitl [HBS]; · iexact HBS
    isplitl [HO]; · iexact HO
    isplitl [Hs0]; · iexact Hs0
    isplitl [H0]; · iexact H0
    iexact H1
  iintro ⟨HFS, HBS, HO, Hs0, H0, H1⟩
  try dsimp only
  ihave HS := (Entails.of_eq (show iprop(FS (blk J) c 1 0 ∗ BS (blk J) c 1 0 ∗ FR (blk J) c 0 ∗ BR (blk J) c 0 ∗ OWE c 1 1) = ST (blk J) c 1 1 0 0 from rfl)) $$ [HFS HBS HFR HBR HO]
  · isplitl [HFS]; · iexact HFS
    isplitl [HBS]; · iexact HBS
    isplitl [HFR]; · iexact HFR
    isplitl [HBR]; · iexact HBR
    iexact HO
  rw [wp_bind]
  iapply (hop3 (blk J) K hI c _ _) $$ [HS]
  · isplitr; · iexact HI
    isplitr; · iexact Hlev
    iexact HS
  iintro HS
  try dsimp only
  rw [wp_bind]
  iapply (hop4 (blk J) K hI c _ _) $$ [HS]
  · isplitr; · iexact HI
    isplitr; · iexact Hlev
    iexact HS
  iintro HS
  try dsimp only
  rw [wp_bind]
  iapply (hop5 (blk J) K hI c _ _ _) $$ [HS]
  · isplitr; · iexact HI
    isplitr; · iexact Hlev
    iexact HS
  iintro HS
  try dsimp only
  rw [wp_bind]
  iapply (hop6 (blk J) K hI c _) $$ [HS]
  · isplitr; · iexact HI
    isplitr; · iexact Hlev
    iexact HS
  iintro HS
  try dsimp only
  rw [wp_bind]
  iapply (hop7 (blk J) K hI c _) $$ [HS]
  · isplitr; · iexact HI
    isplitr; · iexact Hlev
    iexact HS
  iintro HS
  try dsimp only
  rw [wp_bind]
  iapply (hop8 (blk J) K hI c _ _) $$ [HS]
  · isplitr; · iexact HI
    isplitr; · iexact Hlev
    iexact HS
  iintro HS
  try dsimp only
  rw [wp_bind]
  iapply (hop9 (blk J) K hI c _) $$ [HS]
  · isplitr; · iexact HI
    isplitr; · iexact Hlev
    iexact HS
  iintro HS
  try dsimp only
  rw [wp_bind]
  iapply (hop10 (blk J) K hI c _ _) $$ [HS]
  · isplitr; · iexact HI
    isplitr; · iexact Hlev
    iexact HS
  iintro HS
  try dsimp only
  rw [wp_bind]
  iapply (hop11 (blk J) K hI c _) $$ [HS]
  · isplitr; · iexact HI
    isplitr; · iexact Hlev
    iexact HS
  iintro HS
  try dsimp only
  rw [wp_bind]
  iapply (hop12 (blk J) K hI c _) $$ [HS]
  · isplitr; · iexact HI
    isplitr; · iexact Hlev
    iexact HS
  iintro HS
  try dsimp only
  rw [wp_bind]
  iapply (hop13 (blk J) K hI c _) $$ [HS]
  · isplitr; · iexact HI
    isplitr; · iexact Hlev
    iexact HS
  iintro HS
  try dsimp only
  rw [wp_bind]
  iapply (hop14 (blk J) K hI c _) $$ [HS]
  · isplitr; · iexact HI
    isplitr; · iexact Hlev
    iexact HS
  iintro HS
  try dsimp only
  rw [wp_bind]
  iapply (hop15 (blk J) K hI c _) $$ [HS]
  · isplitr; · iexact HI
    isplitr; · iexact Hlev
    iexact HS
  iintro HS
  try dsimp only
  rw [wp_bind]
  iapply (hop16 (blk J) K hI c _) $$ [HS]
  · isplitr; · iexact HI
    isplitr; · iexact Hlev
    iexact HS
  iintro HS
  try dsimp only
  rw [wp_bind]
  iapply (hop17 (blk J) K hI c _ _) $$ [HS]
  · isplitr; · iexact HI
    isplitr; · iexact Hlev
    iexact HS
  iintro HS
  try dsimp only
  rw [wp_bind]
  iapply (hop18 (blk J) K hI c _ _ _) $$ [HS]
  · isplitr; · iexact HI
    isplitr; · iexact Hlev
    iexact HS
  iintro HS
  try dsimp only
  rw [wp_bind]
  iapply (hop19 (blk J) K hI c _) $$ [HS]
  · isplitr; · iexact HI
    isplitr; · iexact Hlev
    iexact HS
  iintro HS
  try dsimp only
  rw [wp_bind]
  iapply (hop20 (blk J) K hI c _) $$ [HS]
  · isplitr; · iexact HI
    isplitr; · iexact Hlev
    iexact HS
  iintro HS
  try dsimp only
  rw [wp_bind]
  iapply (hop21 (blk J) K hI c _ _) $$ [HS]
  · isplitr; · iexact HI
    isplitr; · iexact Hlev
    iexact HS
  iintro HS
  try dsimp only
  rw [wp_bind]
  iapply (hop22 (blk J) K hI c _) $$ [HS]
  · isplitr; · iexact HI
    isplitr; · iexact Hlev
    iexact HS
  iintro HS
  try dsimp only
  rw [wp_bind]
  iapply (hop23 (blk J) K hI c _ _) $$ [HS]
  · isplitr; · iexact HI
    isplitr; · iexact Hlev
    iexact HS
  iintro HS
  try dsimp only
  rw [wp_bind]
  iapply (hop24 (blk J) K hI c _) $$ [HS]
  · isplitr; · iexact HI
    isplitr; · iexact Hlev
    iexact HS
  iintro HS
  try dsimp only
  rw [wp_bind]
  iapply (hop25 (blk J) K hI c _) $$ [HS]
  · isplitr; · iexact HI
    isplitr; · iexact Hlev
    iexact HS
  iintro HS
  try dsimp only
  rw [wp_bind]
  iapply (hop26 (blk J) K hI c _) $$ [HS]
  · isplitr; · iexact HI
    isplitr; · iexact Hlev
    iexact HS
  iintro HS
  try dsimp only
  rw [wp_bind]
  iapply (hop27 (blk J) K hI c _) $$ [HS]
  · isplitr; · iexact HI
    isplitr; · iexact Hlev
    iexact HS
  iintro HS
  try dsimp only
  rw [wp_bind]
  iapply (hop28 (blk J) K hI c _) $$ [HS]
  · isplitr; · iexact HI
    isplitr; · iexact Hlev
    iexact HS
  iintro HS
  try dsimp only
  rw [wp_bind]
  iapply (op29 J K hI c fc) $$ [HS Hs0 Hctx]
  · isplitr; · iexact HI
    isplitr; · iexact Hlev
    isplitl [HS]; · iexact HS
    isplitl [Hs0]; · iexact Hs0
    iexact Hctx
  iintro ⟨HFS, HBS, HO, Hat, Hs16, Hs31, Hkv, Hctx⟩
  try dsimp only
  rw [wp_bind]
  iapply (op30 J c _) $$ [Hkv Hctx]
  · isplitl [Hkv]; · iexact Hkv
    iexact Hctx
  iintro ⟨Hkv, Hctx⟩
  try dsimp only
  rw [wp_bind]
  iapply (op31 J c _) $$ [Hkv Hctx]
  · isplitl [Hkv]; · iexact Hkv
    iexact Hctx
  iintro %z ⟨Hkv, Hctx⟩
  try dsimp only
  rw [wp_bind]
  iapply (op32 J K hI c fc z g) $$ [HFS HO Hctx H4 H7]
  · isplitr; · iexact HI
    isplitr; · iexact Hlev
    isplitl [HFS]; · iexact HFS
    isplitl [HO]; · iexact HO
    isplitl [Hctx]; · iexact Hctx
    isplitl [H4]; · iexact H4
    iexact H7
  iintro ⟨HFS, HO, Hctx, H4, H7⟩
  try dsimp only
  ihave HS := (Entails.of_eq (rfl : iprop(FS (blk J) c 16 1 ∗ BS (blk J) c 15 0 ∗ OWE c 16 15) = iprop(FS (blk J) c 16 1 ∗ BS (blk J) c 15 0 ∗ OWE c 16 15))) $$ [HFS HBS HO]
  · isplitl [HFS]; · iexact HFS
    isplitl [HBS]; · iexact HBS
    iexact HO
  rw [wp_bind]
  iapply (hop33 (blk J) K hI c) $$ [HS]
  · isplitr; · iexact HI
    isplitr; · iexact Hlev
    iexact HS
  iintro HS
  try dsimp only
  rw [wp_bind]
  iapply (hop34 (blk J) K hI c) $$ [HS]
  · isplitr; · iexact HI
    isplitr; · iexact Hlev
    iexact HS
  iintro HS
  try dsimp only
  rw [wp_bind]
  iapply (hop35 (blk J) K hI c) $$ [HS]
  · isplitr; · iexact HI
    isplitr; · iexact Hlev
    iexact HS
  iintro HS
  try dsimp only
  rw [wp_bind]
  iapply (hop36 (blk J) K hI c) $$ [HS]
  · isplitr; · iexact HI
    isplitr; · iexact Hlev
    iexact HS
  iintro HS
  try dsimp only
  rw [wp_bind]
  iapply (hop37 (blk J) K hI c) $$ [HS]
  · isplitr; · iexact HI
    isplitr; · iexact Hlev
    iexact HS
  iintro HS
  try dsimp only
  rw [wp_bind]
  iapply (hop38 (blk J) K hI c) $$ [HS]
  · isplitr; · iexact HI
    isplitr; · iexact Hlev
    iexact HS
  iintro HS
  try dsimp only
  rw [wp_bind]
  iapply (hop39 (blk J) K hI c) $$ [HS]
  · isplitr; · iexact HI
    isplitr; · iexact Hlev
    iexact HS
  iintro HS
  try dsimp only
  rw [wp_bind]
  iapply (hop40 (blk J) K hI c) $$ [HS]
  · isplitr; · iexact HI
    isplitr; · iexact Hlev
    iexact HS
  iintro HS
  try dsimp only
  rw [wp_bind]
  iapply (hop41 (blk J) K hI c) $$ [HS]
  · isplitr; · iexact HI
    isplitr; · iexact Hlev
    iexact HS
  iintro HS
  try dsimp only
  rw [wp_bind]
  iapply (hop42 (blk J) K hI c) $$ [HS]
  · isplitr; · iexact HI
    isplitr; · iexact Hlev
    iexact HS
  iintro HS
  try dsimp only
  icases HS with ⟨HFS, HBS, HO⟩
  simp only [Prog.lift, Prog.bind_op, Prog.bind_ret, Prog.pure_eq_ret]
  iapply (wp_wait_bs (blk J) K hI c 12 (by decide) 29 28 (by decide) (by decide)) $$ [HBS HO]
  · isplitr; · iexact HI
    isplitr; · iexact Hlev
    isplitl [HBS]; · iexact HBS
    iexact HO
  iintro ⟨HBS, HO⟩
  rw [wp_ret]; imodintro
  iapply Hk
  unfold runMid runTail stages
  isplitl [HFS]; · iexact HFS
  isplitl [HBS]; · iexact HBS
  isplitl [HO]; · iexact HO
  isplitl [Hat]; · iexact Hat
  isplitl [HatB]; · iexact HatB
  isplitl [Hs16]; · iexact Hs16
  isplitl [Hs31]; · iexact Hs31
  isplitl [Hkv]; · iexact Hkv
  isplitl [Hctx]; · iexact Hctx
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Whatever of the cells has taken its round is closed, its counter in hand at zero. -/
theorem close_all {n : ℕ} (g : Fin n → GSem nD τ sig) (hg : ∀ h, I ⊢ cellInv ER (Rd (blk J)) (K (g h)) (g h)) :
    iprop(I ∗ bigSep Finset.univ fun h => (atPos ER (g h) 1 ∅ 0 : sProp 𝕄)) ⊢ |={Set.univ}=> bigSep Finset.univ fun h => (semVal (g h) 0 : sProp 𝕄) := by
  have h1 : iprop(I ∗ bigSep Finset.univ fun h => (atPos ER (g h) 1 ∅ 0 : sProp 𝕄)) ⊢ bigSep Finset.univ fun h => iprop(|={Set.univ}=> (semVal (g h) 0 : sProp 𝕄)) :=
    bigSep_with_persistent (R := I) fun h _ => by
      iintro ⟨#HI, Ha⟩
      iapply (Rounds.cell_close ER (Rd (blk J)) (Set.mem_univ (K (g h))) (fun h => h) (R := 0 + 1) (duties_later (blk J) (g h)))
      isplitr; · iapply (hg h); iexact HI
      iexact Ha
  exact h1.trans (bigSep_fupd Finset.univ _)

/-- The counters of the copies' semaphores at zero. -/
def zeros (c : Dev nD) : sProp 𝕄 :=
  iprop(((bigSep Finset.univ fun h : Fin 16 => semVal (fsC c h.val h.isLt) 0) ∗ bigSep Finset.univ fun h : Fin 16 => semVal (frC c h.val h.isLt) 0)
    ∗ ((bigSep Finset.univ fun h : Fin 15 => semVal (bsC c h.val h.isLt) 0) ∗ bigSep Finset.univ fun h : Fin 15 => semVal (brC c h.val h.isLt) 0))

/-- What a device ends its body with. -/
def runPost (J : Dev nD → Ins F) (c : Dev nD) : sProp 𝕄 :=
  iprop(semVal (barC c) 0 ∗ zeros c ∗ (∃ f, kvPt (F := F) c fullShare f) ∗ (∃ f, stPt (F := F) c cc0_scratch1 f) ∗ stages J c (outAt J c)
    ∗ ∃ W, owes (c : Thread nD τ) (0 : CellTallies nD τ sig Unit) W)

include hI in
theorem finish : iprop(I ∗ runMid J c 15) ⊢ |={Set.univ}=> runPost J c := by
  unfold runMid runTail
  iintro ⟨#HI, HFS, HBS, HO, ⟨HaFR, HaBR⟩, HatB, H16, H31, Hkv, Hctx, Hst⟩
  ihave Hb := (back (blk J) c) $$ [HFS HBS H16 H31]
  · isplitl [HFS]; · iexact HFS
    isplitl [HBS]; · iexact HBS
    isplitl [H16]; · iexact H16
    iexact H31
  icases Hb with ⟨⟨HaFS, HaBS⟩, Hkv'⟩
  unfold atFR atBR atFS atBS
  imod (Rounds.cell_close ER (Rd (blk J)) (Set.mem_univ (K (barC c))) (fun h => h) (R := 0 + 1) (duties_later (blk J) (barC c))) $$ [HatB] with Hz
  · isplitr; · iapply (hI.bar c); iexact HI
    iexact HatB
  imod (close_all J K (I := I) (fun h : Fin 16 => fsC c h.val h.isLt) (fun h => hI.dma c _ (by rw [fsS_val]; omega))) $$ [HaFS] with Hfs
  · isplitr; · iexact HI
    iexact HaFS
  imod (close_all J K (I := I) (fun h : Fin 16 => frC c h.val h.isLt) (fun h => hI.dma c _ (by rw [frS_val]; omega))) $$ [HaFR] with Hfr
  · isplitr; · iexact HI
    iexact HaFR
  imod (close_all J K (I := I) (fun h : Fin 15 => bsC c h.val h.isLt) (fun h => hI.dma c _ (by rw [bsS_val]; omega))) $$ [HaBS] with Hbs
  · isplitr; · iexact HI
    iexact HaBS
  imod (close_all J K (I := I) (fun h : Fin 15 => brC c h.val h.isLt) (fun h => hI.dma c _ (by rw [brS_val]; omega))) $$ [HaBR] with Hbr
  · isplitr; · iexact HI
    iexact HaBR
  imodintro
  unfold runPost zeros
  isplitl [Hz]; · iexact Hz
  isplitl [Hfs Hfr Hbs Hbr]
  · isplitl [Hfs Hfr]
    · isplitl [Hfs]; · iexact Hfs
      iexact Hfr
    isplitl [Hbs]; · iexact Hbs
    iexact Hbr
  isplitl [Hkv Hkv']
  · iexists (G (blk J) c)
    iapply (kv_whole c (G (blk J) c)).2
    isplitl [Hkv]; · iexact Hkv
    iexact Hkv'
  isplitl [Hctx]; · iexists _; iexact Hctx
  isplitl [Hst]; · iexact Hst
  unfold OWE
  rw [OW_end]
  iexact HO

include hI in
/-- The body, from what a device starts with to what it ends with. -/
theorem run_body {Q : PUnit → sProp 𝕄} :
    iprop(I ∗ levAts L lv ∗ runPre J c)
      ⊢ iprop((runPost J c -∗ Q ⟨⟩) -∗ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5) Q) := by
  iintro ⟨#HI, #Hlev, Hpre⟩
  iintro Hk
  rw [cc0_body_eq_skeleton]; unfold cc0_body_skel
  rw [wp_bind]
  iapply (run43 J K hI c) $$ [Hpre]
  · isplitr; · iexact HI
    isplitr; · iexact Hlev
    iexact Hpre
  iintro Hm
  simp only [Prog.lift, Prog.bind_op, Prog.bind_ret, Prog.pure_eq_ret]
  ihave Hm := (Entails.of_eq (show runMid J c 13 = iprop(FS (blk J) c 16 16 ∗ BS (blk J) c 15 13 ∗ OWE c 16 15 ∗ runTail J c) from rfl)) $$ Hm
  icases Hm with ⟨HFS, HBS, HO, Ht⟩
  iapply (wp_wait_bs (blk J) K hI c 13 (by decide) 30 29 (by decide) (by decide)) $$ [HBS HO]
  · isplitr; · iexact HI
    isplitr; · iexact Hlev
    isplitl [HBS]; · iexact HBS
    iexact HO
  iintro ⟨HBS, HO⟩
  iapply (wp_wait_bs (blk J) K hI c 14 (by decide) 31 30 (by decide) (by decide)) $$ [HBS HO]
  · isplitr; · iexact HI
    isplitr; · iexact Hlev
    isplitl [HBS]; · iexact HBS
    iexact HO
  iintro ⟨HBS, HO⟩
  rw [wp_ret]
  imod (finish J K hI c) $$ [HFS HBS HO Ht] with Hp
  · isplitr; · iexact HI
    iapply (Entails.of_eq (show iprop(FS (blk J) c 16 16 ∗ BS (blk J) c 15 15 ∗ OWE c 16 15 ∗ runTail J c) = runMid J c 15 from rfl))
    isplitl [HFS]; · iexact HFS
    isplitl [HBS]; · iexact HBS
    isplitl [HO]; · iexact HO
    iexact Ht
  imodintro
  iapply Hk; iexact Hp

end Run

end Cert.Proof

end
-- ==== Proof.Region.lean ====
/-
  The kernel's launch on a device: what the host writes before it, the staged operands, the body's obligation, and the launch
  as one step of the host's program.
-/
module

public import proofs.«01_k».proof.Proof.Run
public import proofs.«01_k».proof.Proof.Gen.KernelIdeal.Regions
public import proofs.«01_k».proof.Proof.Gen.KernelIdeal.Points
public import Idealize.ShloMosaic.Lib.StableHlo.RunRead
public import Idealize.ShloMosaic.Lib.WordCmp

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

local notation "𝕄" => MT nD τ sig Unit (Elt F) ℕ UU ℕ

/-! ## What the host writes -/

/-- The number device d looks itself up with. -/
def look (d : Dev nD) : S_.Idx → BitVec 32 :=
  select (cmpi .slt (Host.remui (Host.divui (constantI S_ 32 (Dev.word d)) (constantI S_ 32 1#32)) (constantI S_ 32 32#32)) (constantI S_ 32 0#32))
    (addi (Host.remui (Host.divui (constantI S_ 32 (Dev.word d)) (constantI S_ 32 1#32)) (constantI S_ 32 32#32)) (constantI S_ 32 32#32))
    (Host.remui (Host.divui (constantI S_ 32 (Dev.word d)) (constantI S_ 32 1#32)) (constantI S_ 32 32#32))
theorem look_eq (d : Dev nD) : (look d (Shape.Idx.first h_S_)).toInt = (d.val : Int) := by
  revert d; decide

theorem slice_at (t : Fin 32 → BitVec 32) (c : Dev nD) (j : S1.Idx) :
    Host.dynamicSlice S1 (fun i => t (S32.rowMajor i)) (fun _ => (c.val : Int)) sliceFits_S32_S1 j = t c := by
  unfold Host.dynamicSlice extractStridedSlice
  apply congrArg t
  apply Fin.ext
  revert c j; decide
theorem v7_eq (c : Dev nD) : StableHlo.upto (hostOps0 c) (V0 m c) 13 (Proc.devRef .tc main_v7) = look c := by
  unfold look
  after_reads_simp
  try rfl
theorem V1_next (c : Dev nD) : V1 m c main_v10 = fun _ => nw c := by
  have e : V1 m c main_v10 = shapeCast S1 (shapeCast S_ (Host.dynamicSlice S1 (fun i => lit0 (S32.rowMajor i)) (fun _ => (look c (Shape.Idx.first h_S_)).toInt) sliceFits_S32_S1) shapeCasts_S1_S_) shapeCasts_S_S1 := by
    after_reads_simp
    refine congrArg (fun z => shapeCast S1 (shapeCast S_ (Host.dynamicSlice S1 (fun i => lit0 (S32.rowMajor i)) z sliceFits_S32_S1) shapeCasts_S1_S_) shapeCasts_S_S1) ?_
    funext k
    obtain rfl : k = (0 : Fin 1) := Subsingleton.elim _ _
    exact congrArg (fun z : S_.Idx → BitVec 32 => (z (Shape.Idx.first h_S_)).toInt) (v7_eq m c)
  rw [e, look_eq]
  funext i
  show Host.dynamicSlice S1 (fun i => lit0 (S32.rowMajor i)) (fun _ => (c.val : Int)) sliceFits_S32_S1 _ = _
  rw [slice_at]
  clear e; revert c; decide
theorem v13_eq (c : Dev nD) : StableHlo.upto (hostOps0 c) (V0 m c) 21 (Proc.devRef .tc main_v13) = look c := by
  unfold look
  after_reads_simp
  try rfl
theorem V1_prev (c : Dev nD) : V1 m c main_v16 = fun _ => pw c := by
  have e : V1 m c main_v16 = shapeCast S1 (shapeCast S_ (Host.dynamicSlice S1 (fun i => lit1 (S32.rowMajor i)) (fun _ => (look c (Shape.Idx.first h_S_)).toInt) sliceFits_S32_S1) shapeCasts_S1_S_) shapeCasts_S_S1 := by
    after_reads_simp
    refine congrArg (fun z => shapeCast S1 (shapeCast S_ (Host.dynamicSlice S1 (fun i => lit1 (S32.rowMajor i)) z sliceFits_S32_S1) shapeCasts_S1_S_) shapeCasts_S_S1) ?_
    funext k
    obtain rfl : k = (0 : Fin 1) := Subsingleton.elim _ _
    exact congrArg (fun z : S_.Idx → BitVec 32 => (z (Shape.Idx.first h_S_)).toInt) (v13_eq m c)
  rw [e, look_eq]
  funext i
  show Host.dynamicSlice S1 (fun i => lit1 (S32.rowMajor i)) (fun _ => (c.val : Int)) sliceFits_S32_S1 _ = _
  rw [slice_at]
  clear e; revert c; decide

/-! ## The data of the launch -/

/-- The devices' inputs. -/
def ins (c : Dev nD) : Ins F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

/-- The buffers once the kernel has run: the result's holds what the body makes. -/
def W2 (c : Dev nD) : Valuation τ sig (Elt F) := Function.update (V1 m c) main_v17 (outAt (ins m) c)

/-- The kernel's own semaphores: all but the staging ones. -/
abbrev KS : Type := {s : DmaSem sig // 8 ≤ s.val}
abbrev osem (k : KS) : SemLoc sig := .dma k.1

theorem own_facts : Pipeline.OwnSemFacts spec0 osem where
  isScoped k := (by decide : ∀ s : DmaSem sig, (SemLoc.dma s : SemLoc sig).isScoped .tc = true) k.1
  inj a b h := Subtype.ext (by injection h)
  disj k w s h := by
    have h1 : k.1 = (spec0 w).sem s := by injection h
    have h2 := (by decide : ∀ (w : Fin 8) (s : Fin (spec0 w).nbuf), ((spec0 w).sem s).val < 8) w s
    have h3 := k.2
    rw [h1] at h3
    omega

/-! ## The semaphores in four groups -/

abbrev Gr : Type := (Fin 16 ⊕ Fin 16) ⊕ (Fin 15 ⊕ Fin 15)
def grp : Gr → KS
  | .inl (.inl h) => ⟨fsS h.val h.isLt, by rw [fsS_val]; omega⟩
  | .inl (.inr h) => ⟨frS h.val h.isLt, by rw [frS_val]; omega⟩
  | .inr (.inl h) => ⟨bsS h.val h.isLt, by rw [bsS_val]; omega⟩
  | .inr (.inr h) => ⟨brS h.val h.isLt, by rw [brS_val]; omega⟩
def grpVal : Gr → ℕ
  | .inl (.inl h) => 8 + h.val
  | .inl (.inr h) => 24 + h.val
  | .inr (.inl h) => 40 + h.val
  | .inr (.inr h) => 55 + h.val
theorem grp_val : ∀ g : Gr, (grp g).1.val = grpVal g
  | .inl (.inl h) => fsS_val h.val h.isLt
  | .inl (.inr h) => frS_val h.val h.isLt
  | .inr (.inl h) => bsS_val h.val h.isLt
  | .inr (.inr h) => brS_val h.val h.isLt
theorem grpVal_inj : Function.Injective grpVal := by
  rintro ((a | a) | (a | a)) ((b | b) | (b | b)) h <;> simp only [grpVal] at h <;> have ha := a.isLt <;> have hb := b.isLt <;>
    first
      | (have : a = b := Fin.ext (by omega)
         subst this; rfl)
      | omega
theorem grp_bij : Function.Bijective grp := by
  rw [Fintype.bijective_iff_injective_and_card]
  refine ⟨fun a b h => grpVal_inj ?_, by decide⟩
  rw [← grp_val, ← grp_val, h]
def grpE : Gr ≃ KS := Equiv.ofBijective grp grp_bij

theorem bigSep_sum {A B : Type} [Fintype A] [Fintype B] [DecidableEq A] [DecidableEq B] (Φ : A ⊕ B → sProp 𝕄) :
    bigSep Finset.univ Φ = iprop(bigSep Finset.univ (fun a => Φ (.inl a)) ∗ bigSep Finset.univ (fun b => Φ (.inr b))) := BI.bigSep_univ_sum Φ

/-- An assertion about every semaphore of the kernel, group by group. -/
theorem bigSep_grp (Φ : KS → sProp 𝕄) : bigSep Finset.univ Φ
    = iprop(((bigSep Finset.univ fun h : Fin 16 => Φ (grp (.inl (.inl h)))) ∗ (bigSep Finset.univ fun h : Fin 16 => Φ (grp (.inl (.inr h)))))
      ∗ ((bigSep Finset.univ fun h : Fin 15 => Φ (grp (.inr (.inl h)))) ∗ (bigSep Finset.univ fun h : Fin 15 => Φ (grp (.inr (.inr h)))))) := by
  have h : bigSep Finset.univ Φ = bigSep Finset.univ fun g : Gr => Φ (grp g) := bigSep_univ_equiv grpE Φ
  rw [h, bigSep_sum, bigSep_sum, bigSep_sum]

theorem zeros_eq (c : Dev nD) : (Pipeline.ownSems0 (Ix := Unit) (Val := Elt F) (Name := ℕ) (U := UU) (Lvl := ℕ) osem c : sProp 𝕄) = zeros c := by
  unfold Pipeline.ownSems0 zeros
  rw [bigSep_grp]
  rfl

/-! ## What the protocol starts from -/

/-- The cells that start with their counters: the barriers. The others get theirs when the kernel starts. -/
def barEmb : Dev nD ↪ GSem nD τ sig := ⟨fun c => barC c, fun _ _ h => congrArg (fun g : GSem nD τ sig => g.1.1) h⟩
def scEmb : Dev nD × KS ↪ GSem nD τ sig :=
  ⟨fun ck => ((ck.1 : Thread nD τ), osem ck.2), fun _ _ h =>
    Prod.ext (congrArg (fun g : GSem nD τ sig => g.1.1) h) (own_facts.inj (congrArg Prod.snd h))⟩
@[irreducible] def barCells : Finset (GSem nD τ sig) := Finset.univ.map barEmb
@[irreducible] def scCells : Finset (GSem nD τ sig) := Finset.univ.map scEmb

theorem bar_mem (c : Dev nD) : barC c ∈ barCells ∪ scCells := by
  unfold barCells; exact Finset.mem_union_left _ (Finset.mem_map_of_mem barEmb (Finset.mem_univ c))
theorem sc_mem (c : Dev nD) (k : KS) : ((c : Thread nD τ), osem k) ∈ barCells ∪ scCells := by
  unfold scCells; exact Finset.mem_union_right _ (Finset.mem_map_of_mem scEmb (Finset.mem_univ (c, k)))

/-- All the cells' invariants. -/
@[irreducible] def invs (κ : GSem nD τ sig → ℕ) : sProp 𝕄 := bigSep (barCells ∪ scCells) fun g => cellInv ER (Rd (blk (ins m))) (κ g) g
instance invs_persistent (κ : GSem nD τ sig → ℕ) : BI.Persistent (invs m κ) := by unfold invs; infer_instance
theorem invs_recs (κ : GSem nD τ sig → ℕ) : Recs (blk (ins m)) κ (invs m κ) where
  bar c := by unfold invs; exact bigSep_elim (Φ := fun g => cellInv ER (Rd (blk (ins m))) (κ g) g) (bar_mem c)
  dma c s h := by unfold invs; exact bigSep_elim (Φ := fun g => cellInv ER (Rd (blk (ins m))) (κ g) g) (sc_mem c ⟨s, h⟩)

/-- The duties device c pays at its neighbours' barriers and slots, and at its own sending semaphores. -/
def duties (c : Dev nD) : sProp 𝕄 :=
  iprop((dutyTok ER (barC (prv c)) 0 false ∗ dutyTok ER (barC (nxt c)) 0 true)
    ∗ ((bigSep Finset.univ fun h : Fin 16 => dutyTok ER (fsC c h.val h.isLt) 0 false) ∗ (bigSep Finset.univ fun h : Fin 16 => dutyTok ER (frC (nxt c) h.val h.isLt) 0 false))
    ∗ ((bigSep Finset.univ fun h : Fin 15 => dutyTok ER (bsC c h.val h.isLt) 0 false) ∗ (bigSep Finset.univ fun h : Fin 15 => dutyTok ER (brC (prv c) h.val h.isLt) 0 false)))
/-- What it may count on receiving. -/
def dues (c : Dev nD) : sProp 𝕄 :=
  iprop(cred (tallyAt (barC c) () 2) ∗ (bigSep Finset.univ fun h : Fin 16 => cred (tallyAt (frC c h.val h.isLt) () N))
    ∗ (bigSep Finset.univ fun h : Fin 15 => cred (tallyAt (brC c h.val h.isLt) () N)))
/-- A device's share of the protocol, before the kernel starts. -/
def shareAt (κ : GSem nD τ sig → ℕ) (c : Dev nD) : sProp 𝕄 :=
  iprop(invs m κ ∗ (reached ER (barC (prv c)) 0 ∗ reached ER (barC (nxt c)) 0) ∗ atPos ER (barC c) 0 ∅ 0
    ∗ (bigSep Finset.univ fun k : KS => openTok ER ((c : Thread nD τ), osem k)) ∗ duties c)
def Tk (c : Dev nD) : sProp 𝕄 := iprop((∃ κ, shareAt m κ c) ∗ dues c)

/-- And once it has. -/
def Xk (c : Dev nD) : sProp 𝕄 :=
  iprop((∃ κ, invs m κ) ∗ levAts L lv ∗ barIn c ∗ (tokF c ∗ tokB c) ∗ (FR (blk (ins m)) c 0 ∗ BR (blk (ins m)) c 0))

theorem open_one (κ : GSem nD τ sig → ℕ) (c : Dev nD) (k : KS) :
    iprop(invs m κ ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  iintro ⟨#HI, Ho, Hv⟩
  iapply (Rounds.cell_open ER (Rd (blk (ins m))) (g := ((c : Thread nD τ), osem k)) (Set.mem_univ (κ ((c : Thread nD τ), osem k))))
  isplitr; · iapply ((invs_recs m κ).dma c k.1 k.2); iexact HI
  isplitl [Ho] <;> iassumption

/-- All of a device's semaphores opened. -/
theorem open_all (κ : GSem nD τ sig → ℕ) (c : Dev nD) :
    iprop(invs m κ ∗ (bigSep Finset.univ fun k : KS => openTok ER ((c : Thread nD τ), osem k)) ∗ Pipeline.ownSems0 osem c)
      ⊢ (|={Set.univ}=> bigSep Finset.univ fun k : KS => iprop(atPos ER ((c : Thread nD τ), osem k) 0 ∅ 0 ∗ reached ER ((c : Thread nD τ), osem k) 0) : sProp 𝕄) := by
  have h := bigSep_with_persistent (S := Finset.univ) (R := invs m κ) (Φ := fun k : KS => iprop(openTok ER ((c : Thread nD τ), osem k) ∗ semVal ((c : Thread nD τ), osem k) 0))
    (Ψ := fun k : KS => iprop(|={Set.univ}=> (atPos ER ((c : Thread nD τ), osem k) 0 ∅ 0 ∗ reached ER ((c : Thread nD τ), osem k) 0)))
    fun k _ => open_one m κ c k
  refine BIBase.Entails.trans ?_ (h.trans (bigSep_fupd _ _))
  rw [bigSep_sep']
  unfold Pipeline.ownSems0
  exact BIBase.Entails.rfl

/-- What opening them leaves, sorted as the body wants it. -/
theorem sorted (c : Dev nD) :
    (bigSep Finset.univ fun k : KS => (iprop(atPos ER ((c : Thread nD τ), osem k) 0 ∅ 0 ∗ reached ER ((c : Thread nD τ), osem k) 0) : sProp 𝕄))
      ⊢ iprop((((bigSep Finset.univ fun h : Fin 16 => atPos ER (fsC c h.val h.isLt) 0 ∅ 0) ∗ (bigSep Finset.univ fun h : Fin 16 => reached ER (fsC c h.val h.isLt) 0))
          ∗ ((bigSep Finset.univ fun h : Fin 16 => atPos ER (frC c h.val h.isLt) 0 ∅ 0) ∗ (bigSep Finset.univ fun h : Fin 16 => reached ER (frC c h.val h.isLt) 0)))
        ∗ (((bigSep Finset.univ fun h : Fin 15 => atPos ER (bsC c h.val h.isLt) 0 ∅ 0) ∗ (bigSep Finset.univ fun h : Fin 15 => reached ER (bsC c h.val h.isLt) 0))
          ∗ ((bigSep Finset.univ fun h : Fin 15 => atPos ER (brC c h.val h.isLt) 0 ∅ 0) ∗ (bigSep Finset.univ fun h : Fin 15 => reached ER (brC c h.val h.isLt) 0)))) := by
  rw [bigSep_grp, bigSep_sep', bigSep_sep', bigSep_sep', bigSep_sep']
  exact Entails.of_eq rfl

theorem hopen (c : Dev nD) : iprop(Tk m c ∗ Pipeline.ownSems0 osem c ∗ levAts L lv) ⊢ (|={Set.univ}=> Xk m c : sProp 𝕄) := by
  unfold Tk shareAt dues duties
  iintro ⟨⟨⟨%κ, #HI, ⟨#HrP, #HrN⟩, HaB, Ho, ⟨HtP, HtN⟩, ⟨HtFS, HtFR⟩, HtBS, HtBR⟩, HcB, HcF, HcR⟩, Hz, #Hlev⟩
  imod (open_all m κ c) $$ [Ho Hz] with H
  · isplitr; · iexact HI
    isplitl [Ho] <;> iassumption
  ihave H' := (sorted (F := F) c) $$ H
  icases H' with ⟨⟨⟨HaFS, #HrFS⟩, HaFR, #HrFR⟩, ⟨HaBS, #HrBS⟩, HaBR, #HrBR⟩
  imodintro
  unfold Xk barIn tokF tokB
  isplitr; · iexists κ; iexact HI
  isplitr; · iexact Hlev
  isplitl [HtP HtN HcB HaB]
  · isplitr; · iexact HrFR
    isplitr; · iexact HrBR
    isplitl [HtP]; · isplitl; · iexact HtP
                     iexact HrP
    isplitl [HtN]; · isplitl; · iexact HtN
                     iexact HrN
    isplitl [HcB] <;> iassumption
  isplitl [HtFS HtFR HtBS HtBR HaFS HaBS]
  · isplitl [HtFS HtFR HaFS]
    · rw [bigSep_sep', bigSep_sep', bigSep_sep']
      isplitl [HtFR]; · iexact HtFR
      isplitl [HtFS]; · iexact HtFS
      isplitr; · iexact HrFS
      iexact HaFS
    · rw [bigSep_sep', bigSep_sep', bigSep_sep']
      isplitl [HtBR]; · iexact HtBR
      isplitl [HtBS]; · iexact HtBS
      isplitr; · iexact HrBS
      iexact HaBS
  unfold FR BR frI brI
  isplitl [HcF HaFR]
  · iapply (Entails.of_eq (bigSep_congr (s := Finset.univ) fun h _ => (if_neg (Nat.not_lt_zero h.val)).symm))
    rw [bigSep_sep']
    isplitl [HcF] <;> iassumption
  · iapply (Entails.of_eq (bigSep_congr (s := Finset.univ) fun h _ => (if_neg (Nat.not_lt_zero h.val)).symm))
    rw [bigSep_sep']
    isplitl [HcR] <;> iassumption

/-! ## The kernel's body as the launch runs it -/

/-- The two scratch buffers, at any contents, and the generator's state. -/
def spare (c : Dev nD) : sProp 𝕄 :=
  iprop((∃ f, kvPt (F := F) c fullShare f) ∗ (∃ f, stPt (F := F) c cc0_scratch1 f) ∗ ∃ r, prngReg c r)

def dats (_ : Fin 1) (c : Dev nD) : Dat τ (Elt F) Unit ℕ UU ℕ cfg0 c where
  A w := V1 m c (Proc.devRef .tc (Pipeline.arrRef spec0 w))
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => fun _ => nw c
    | ⟨6, _⟩ => fun _ => pw c
    | ⟨7, _⟩ => outAt (ins m) c
  Φ t := match t with
    | ⟨0, _⟩ => iprop(Xk m c ∗ spare c)
    | ⟨_ + 1, _⟩ => iprop(semVal (barC c) 0 ∗ zeros c ∗ spare c)
  q _ := fullShare
  owed t := match t with
    | ⟨0, _⟩ => O₀ c
    | ⟨_ + 1, _⟩ => 0

/-! Reading and writing a window that is all of its array. -/

section
variable (c : Dev nD)
theorem read_win0 (t : Fin grid0.N) (f : Buf (Elt F) ((c : Thread nD τ).loc main_arg0)) : (win0_0.blk t).view.read (Elt F) f = f := by
  funext i
  apply congrArg f
  funext a
  apply Fin.ext
  show 0 * _ + 1 * (i a).val = (i a).val
  omega
theorem read_win1 (t : Fin grid0.N) (f : Buf (Elt F) ((c : Thread nD τ).loc main_arg1)) : (win0_1.blk t).view.read (Elt F) f = f := by
  funext i
  apply congrArg f
  funext a
  apply Fin.ext
  show 0 * _ + 1 * (i a).val = (i a).val
  omega
theorem read_win2 (t : Fin grid0.N) (f : Buf (Elt F) ((c : Thread nD τ).loc main_arg2)) : (win0_2.blk t).view.read (Elt F) f = f := by
  funext i
  apply congrArg f
  funext a
  apply Fin.ext
  show 0 * _ + 1 * (i a).val = (i a).val
  omega
theorem read_win3 (t : Fin grid0.N) (f : Buf (Elt F) ((c : Thread nD τ).loc main_arg3)) : (win0_3.blk t).view.read (Elt F) f = f := by
  funext i
  apply congrArg f
  funext a
  apply Fin.ext
  show 0 * _ + 1 * (i a).val = (i a).val
  omega
theorem read_win4 (t : Fin grid0.N) (f : Buf (Elt F) ((c : Thread nD τ).loc main_arg4)) : (win0_4.blk t).view.read (Elt F) f = f := by
  funext i
  apply congrArg f
  funext a
  apply Fin.ext
  show 0 * _ + 1 * (i a).val = (i a).val
  omega
theorem read_win5 (t : Fin grid0.N) (f : Buf (Elt F) ((c : Thread nD τ).loc main_v10)) : (win0_5.blk t).view.read (Elt F) f = f := by
  funext i
  apply congrArg f
  funext a
  apply Fin.ext
  show 0 * _ + 1 * (i a).val = (i a).val
  omega
theorem read_win6 (t : Fin grid0.N) (f : Buf (Elt F) ((c : Thread nD τ).loc main_v16)) : (win0_6.blk t).view.read (Elt F) f = f := by
  funext i
  apply congrArg f
  funext a
  apply Fin.ext
  show 0 * _ + 1 * (i a).val = (i a).val
  omega
theorem read_win7 (t : Fin grid0.N) (f : Buf (Elt F) ((c : Thread nD τ).loc main_v17)) : (win0_7.blk t).view.read (Elt F) f = f := by
  funext i
  apply congrArg f
  funext a
  apply Fin.ext
  show 0 * _ + 1 * (i a).val = (i a).val
  omega
end

end Cert.Proof

end
-- ==== Proof.Start.lean ====
/-
  The start of the run: every cell's invariant, the tokens dealt round the ring, and what each device may count on receiving.
-/
module

public import proofs.«01_k».proof.Proof.Region

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ)

local notation "𝕄" => MT nD τ sig Unit (Elt F) ℕ UU ℕ

/-! ## The cells and the tokens -/

theorem disjoint_cells : Disjoint barCells scCells := by
  unfold barCells scCells
  rw [Finset.disjoint_left]
  rintro g h₁ h₂
  obtain ⟨c, -, rfl⟩ := Finset.mem_map.mp h₁
  obtain ⟨ck, -, h⟩ := Finset.mem_map.mp h₂
  have h2 := congrArg Prod.snd h
  injection h2

/-- One token for either unit of a device's barrier, one for each of its kernel's semaphores. -/
abbrev Tok : Type := Bool ⊕ KS
def tokOf : Tok → SemLoc sig × Bool
  | .inl b => (.reg barS, b)
  | .inr k => (osem k, false)
theorem tokOf_inj : Function.Injective tokOf := by
  rintro (a | a) (b | b) h
  · exact congrArg Sum.inl (congrArg Prod.snd h)
  · have h2 := congrArg Prod.fst h; injection h2
  · have h2 := congrArg Prod.fst h; injection h2
  · exact congrArg Sum.inr (own_facts.inj (congrArg Prod.fst h))
def tokEmb : Dev nD × Tok ↪ GSem nD τ sig × ℕ × Bool :=
  ⟨fun ct => (((ct.1 : Thread nD τ), (tokOf ct.2).1), 0, (tokOf ct.2).2), fun _ _ h =>
    Prod.ext (congrArg (fun t : GSem nD τ sig × ℕ × Bool => t.1.1.1) h)
      (tokOf_inj (Prod.ext (congrArg (fun t : GSem nD τ sig × ℕ × Bool => t.1.2) h) (congrArg (fun t : GSem nD τ sig × ℕ × Bool => t.2.2) h)))⟩
@[irreducible] def talkToks : Finset (GSem nD τ sig × ℕ × Bool) := Finset.univ.map tokEmb

theorem bigSep_two (Φ : Bool → sProp 𝕄) : bigSep Finset.univ Φ = iprop(Φ false ∗ Φ true) := by
  rw [show (Finset.univ : Finset Bool) = {false, true} by decide, BI.bigSep_insert (by decide), BI.bigSep_singleton]; rfl

/-- The tokens of device c's own cells. -/
def toks (c : Dev nD) : sProp 𝕄 :=
  iprop((dutyTok ER (barC c) 0 false ∗ dutyTok ER (barC c) 0 true)
    ∗ ((bigSep Finset.univ fun h : Fin 16 => dutyTok ER (fsC c h.val h.isLt) 0 false) ∗ (bigSep Finset.univ fun h : Fin 16 => dutyTok ER (frC c h.val h.isLt) 0 false))
    ∗ ((bigSep Finset.univ fun h : Fin 15 => dutyTok ER (bsC c h.val h.isLt) 0 false) ∗ (bigSep Finset.univ fun h : Fin 15 => dutyTok ER (brC c h.val h.isLt) 0 false)))

theorem toks_eq : bigSep talkToks (fun x => (dutyTok ER x.1 x.2.1 x.2.2 : sProp 𝕄)) = bigSep Finset.univ fun c : Dev nD => toks c := by
  unfold talkToks; rw [BI.bigSep_map, BI.bigSep_univ_prod]
  exact BI.bigSep_congr fun c _ => by unfold toks; rw [bigSep_sum, bigSep_two, bigSep_grp]; rfl

/-- Each token handed to the device that pays it. -/
theorem toks_around : (bigSep Finset.univ fun c : Dev nD => (toks c : sProp 𝕄)) ⊢ bigSep Finset.univ fun c : Dev nD => duties c := by
  unfold toks duties
  rw [bigSep_sep', bigSep_sep', bigSep_sep', bigSep_sep', bigSep_sep', bigSep_sep', bigSep_sep', bigSep_sep', bigSep_sep', bigSep_sep',
    bigSep_univ_equiv ring.symm (fun c : Dev nD => (dutyTok ER (barC c) 0 false : sProp 𝕄)),
    bigSep_univ_equiv ring (fun c : Dev nD => (dutyTok ER (barC c) 0 true : sProp 𝕄)),
    bigSep_univ_equiv ring (fun c : Dev nD => (bigSep Finset.univ fun h : Fin 16 => dutyTok ER (frC c h.val h.isLt) 0 false : sProp 𝕄)),
    bigSep_univ_equiv ring.symm (fun c : Dev nD => (bigSep Finset.univ fun h : Fin 15 => dutyTok ER (brC c h.val h.isLt) 0 false : sProp 𝕄))]
  exact BI.Entails.refl _

/-! ## What each device may count on receiving -/

theorem sum_none {ι : Type} [DecidableEq ι] (s : Finset ι) (gs : ι → GSem nD τ sig) (g : GSem nD τ sig) (k : ℕ) (h : ∀ i ∈ s, g ≠ gs i) :
    (∑ i ∈ s, (tallyAt (gs i) () k : CellTallies nD τ sig Unit)) g () = 0 := by
  by_contra h0
  obtain ⟨i, hi, e⟩ := sum_pos' s gs (Nat.pos_of_ne_zero h0)
  exact h i hi e
theorem sum_one {ι : Type} [DecidableEq ι] (s : Finset ι) (gs : ι → GSem nD τ sig) (i : ι) (hi : i ∈ s) (k : ℕ) (h : ∀ j ∈ s, gs i = gs j → j = i) :
    (∑ j ∈ s, (tallyAt (gs j) () k : CellTallies nD τ sig Unit)) (gs i) () = k := by
  rw [← Finset.add_sum_erase s _ hi, Pi.add_apply, Finsupp.add_apply, tallyAt_apply, if_pos ⟨rfl, rfl⟩,
    sum_none _ _ _ _ fun j hj e => (Finset.ne_of_mem_erase hj) (h j (Finset.mem_of_mem_erase hj) e), Nat.add_zero]

theorem dev_of {g g' : GSem nD τ sig} (h : g = g') : g.1.1 = g'.1.1 := congrArg (fun g : GSem nD τ sig => g.1.1) h
theorem reg_ne_dma {c d : Dev nD} {s : DmaSem sig} : barC c ≠ ((d : Thread nD τ), .dma s) := fun h => by
  have h2 := congrArg Prod.snd h; injection h2
theorem dma_val {c d : Dev nD} {s t : DmaSem sig} (h : (((c : Thread nD τ), .dma s) : GSem nD τ sig) = ((d : Thread nD τ), .dma t)) : s.val = t.val := by
  have h2 := congrArg Prod.snd h; injection h2 with h3; rw [h3]
theorem nxt_iff {c d : Dev nD} : c = nxt d ↔ d = prv c := ⟨fun h => by rw [h, prv_nxt], fun h => by rw [h, nxt_prv]⟩
theorem prv_iff {c d : Dev nD} : c = prv d ↔ d = nxt c := ⟨fun h => by rw [h, nxt_prv], fun h => by rw [h, prv_nxt]⟩

theorem bar_tally (c e : Dev nD) : (tallyAt (barC e) () 1 : CellTallies nD τ sig Unit) (barC c) () = if c = e then 1 else 0 := by
  rw [tallyAt_apply]
  by_cases h : c = e
  · rw [h, if_pos ⟨rfl, rfl⟩, if_pos rfl]
  · rw [if_neg (fun h' => h (dev_of h'.1)), if_neg h]

theorem owed_bar (d c : Dev nD) : O₀ d (barC c) () = (if d = prv c then 1 else 0) + if d = nxt c then 1 else 0 := by
  unfold O₀ OW OF OB
  rw [Pi.add_apply, Finsupp.add_apply, Pi.add_apply, Finsupp.add_apply, Pi.add_apply, Finsupp.add_apply,
    sum_none _ (fun h : Fin 16 => frC (nxt d) h.val h.isLt) _ _ (fun _ _ => reg_ne_dma),
    sum_none _ (fun h : Fin 15 => brC (prv d) h.val h.isLt) _ _ (fun _ _ => reg_ne_dma), bar_tally, bar_tally, Nat.zero_add]
  rw [if_congr (nxt_iff (c := c) (d := d)) rfl rfl, if_congr (prv_iff (c := c) (d := d)) rfl rfl]

theorem bar_other (e c : Dev nD) (s : DmaSem sig) : (tallyAt (barC e) () 1 : CellTallies nD τ sig Unit) ((c : Thread nD τ), .dma s) () = 0 := by
  rw [tallyAt_ne_cell (fun h => reg_ne_dma h.symm), Finsupp.zero_apply]

theorem owed_fr (d c : Dev nD) (h : Fin 16) : O₀ d (frC c h.val h.isLt) () = if d = prv c then N else 0 := by
  unfold O₀ OW OF OB
  rw [Pi.add_apply, Finsupp.add_apply, Pi.add_apply, Finsupp.add_apply, Pi.add_apply, Finsupp.add_apply, bar_other, bar_other,
    sum_none _ (fun h : Fin 15 => brC (prv d) h.val h.isLt) _ _ (fun i _ e => by have := dma_val e; rw [frS_val, brS_val] at this; have := h.isLt; omega),
    Nat.add_zero]
  by_cases e : d = prv c
  · obtain rfl := nxt_iff.mpr e
    rw [if_pos e]
    have hj : ∀ j ∈ Finset.univ.filter (fun h : Fin 16 => 0 ≤ h.val), frC (nxt d) h.val h.isLt = frC (nxt d) j.val j.isLt → j = h :=
      fun j _ e' => Fin.ext (by have := dma_val e'; rw [frS_val, frS_val] at this; omega)
    exact sum_one _ (fun h : Fin 16 => frC (nxt d) h.val h.isLt) h (Finset.mem_filter.mpr ⟨Finset.mem_univ _, Nat.zero_le _⟩) N hj
  · rw [if_neg e]
    exact sum_none _ (fun h : Fin 16 => frC (nxt d) h.val h.isLt) _ _ fun _ _ e' => e (nxt_iff.mp (dev_of e'))

theorem owed_br (d c : Dev nD) (h : Fin 15) : O₀ d (brC c h.val h.isLt) () = if d = nxt c then N else 0 := by
  unfold O₀ OW OF OB
  rw [Pi.add_apply, Finsupp.add_apply, Pi.add_apply, Finsupp.add_apply, Pi.add_apply, Finsupp.add_apply, bar_other, bar_other,
    sum_none _ (fun h : Fin 16 => frC (nxt d) h.val h.isLt) _ _ (fun i _ e => by have := dma_val e; rw [frS_val, brS_val] at this; have := i.isLt; omega)]
  simp only [Nat.add_zero, Nat.zero_add]
  by_cases e : d = nxt c
  · obtain rfl := prv_iff.mpr e
    rw [if_pos e]
    have hj : ∀ j ∈ Finset.univ.filter (fun h : Fin 15 => 0 ≤ h.val), brC (prv d) h.val h.isLt = brC (prv d) j.val j.isLt → j = h :=
      fun j _ e' => Fin.ext (by have := dma_val e'; rw [brS_val, brS_val] at this; omega)
    exact sum_one _ (fun h : Fin 15 => brC (prv d) h.val h.isLt) h (Finset.mem_filter.mpr ⟨Finset.mem_univ _, Nat.zero_le _⟩) N hj
  · rw [if_neg e]
    exact sum_none _ (fun h : Fin 15 => brC (prv d) h.val h.isLt) _ _ fun _ _ e' => e (prv_iff.mp (dev_of e'))

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_fr (c : Dev nD) (h : Fin 16) :
    tallyOn (frC c h.val h.isLt) (launchCredit (Pipeline.owing O₀) 0 (frC c h.val h.isLt)) = (tallyAt (frC c h.val h.isLt) () N : CellTallies nD τ sig Unit) := by
  unfold tallyAt; refine congrArg _ (Finsupp.ext fun u => ?_); cases u
  rw [Pipeline.launchCredit_owing, Finsupp.single_eq_same, Finset.sum_congr rfl fun d _ => owed_fr d c h,
    Finset.sum_ite_eq' Finset.univ (prv c) fun _ => N, if_pos (Finset.mem_univ _)]
theorem launch_br (c : Dev nD) (h : Fin 15) :
    tallyOn (brC c h.val h.isLt) (launchCredit (Pipeline.owing O₀) 0 (brC c h.val h.isLt)) = (tallyAt (brC c h.val h.isLt) () N : CellTallies nD τ sig Unit) := by
  unfold tallyAt; refine congrArg _ (Finsupp.ext fun u => ?_); cases u
  rw [Pipeline.launchCredit_owing, Finsupp.single_eq_same, Finset.sum_congr rfl fun d _ => owed_br d c h,
    Finset.sum_ite_eq' Finset.univ (nxt c) fun _ => N, if_pos (Finset.mem_univ _)]

/-- The semaphores at which something is to come. -/
def dueSem : Unit ⊕ (Fin 16 ⊕ Fin 15) → SemLoc sig
  | .inl _ => .reg barS
  | .inr (.inl h) => .dma (frS h.val h.isLt)
  | .inr (.inr h) => .dma (brS h.val h.isLt)
def dueNum : Unit ⊕ (Fin 16 ⊕ Fin 15) → ℕ
  | .inl _ => 0
  | .inr (.inl h) => 24 + h.val
  | .inr (.inr h) => 55 + h.val
theorem dueNum_inj : Function.Injective dueNum := by
  rintro (a | a | a) (b | b | b) h <;> simp only [dueNum] at h
  · rfl
  · omega
  · omega
  · omega
  · exact congrArg (fun x => Sum.inr (Sum.inl x)) (Fin.ext (by omega))
  · have := a.isLt; omega
  · omega
  · have := b.isLt; omega
  · exact congrArg (fun x => Sum.inr (Sum.inr x)) (Fin.ext (by omega))
def semNum : SemLoc sig → ℕ
  | .reg _ => 0
  | .dma s => s.val
theorem dueSem_num : ∀ x, semNum (dueSem x) = dueNum x
  | .inl _ => rfl
  | .inr (.inl h) => frS_val h.val h.isLt
  | .inr (.inr h) => brS_val h.val h.isLt
def dueEmb : Unit ⊕ (Fin 16 ⊕ Fin 15) ↪ SemLoc sig :=
  ⟨dueSem, fun a b h => dueNum_inj (by rw [← dueSem_num, ← dueSem_num, h])⟩

theorem creds (c : Dev nD) : (Pipeline.launchCred O₀ c : sProp 𝕄) ⊢ dues c := by
  unfold Pipeline.launchCred dues
  refine BIBase.Entails.trans (BI.bigSep_subset (Finset.subset_univ (Finset.univ.map dueEmb))) (Entails.of_eq ?_)
  rw [BI.bigSep_map, bigSep_sum, bigSep_sum, show (Finset.univ : Finset Unit) = {()} from rfl, BI.bigSep_singleton]
  refine congrArg₂ _ (congrArg cred (launch_bar c)) (congrArg₂ _ (BI.bigSep_congr fun h _ => congrArg cred (launch_fr c h)) (BI.bigSep_congr fun h _ => congrArg cred (launch_br c h)))

/-! ## The start -/

def u₀ : UU :=
  (initOf (Pipeline.cells (Pipeline.pin (pcfgs (F := F)) adm) cellOf_inj) (Pipeline.launchToks (Pipeline.pin (pcfgs (F := F)) adm) cellOf_inj),
    launchOf barCells scCells talkToks)

/-- A resource that is all on one device. -/
def onDev (c₀ : Dev nD) (X : sProp (MT nD τ sig Unit (Elt F) ℕ UU ℕ)) (c : Dev nD) : sProp 𝕄 := if c = c₀ then X else iprop(emp)
theorem bigSep_onDev (c₀ : Dev nD) (X : sProp 𝕄) : bigSep Finset.univ (onDev c₀ X) = X := by
  rw [BI.bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G₀ : Dev nD → sProp 𝕄 := onDev 0 (BI.own (ER (launchOf barCells scCells talkToks)))

/-- The records every device may consult. -/
def records (κ : GSem nD τ sig → ℕ) : sProp 𝕄 := iprop(invs m κ ∗ bigSep Finset.univ fun c : Dev nD => reached ER (barC c) 0)
instance records_persistent (κ : GSem nD τ sig → ℕ) : BI.Persistent (records m κ) := by unfold records; infer_instance

/-- What stays with device c. -/
def linear (c : Dev nD) : sProp 𝕄 :=
  iprop(atPos ER (barC c) 0 ∅ 0 ∗ (bigSep Finset.univ fun k : KS => openTok ER ((c : Thread nD τ), osem k)) ∗ duties c)

theorem share_intro (κ : GSem nD τ sig → ℕ) (c : Dev nD) : iprop(records m κ ∗ linear c) ⊢ (shareAt m κ c : sProp 𝕄) := by
  unfold records linear shareAt
  have hr (e : Dev nD) : (bigSep Finset.univ fun c : Dev nD => (reached ER (barC c) 0 : sProp 𝕄)) ⊢ reached ER (barC e) 0 :=
    bigSep_elim (Φ := fun c : Dev nD => (reached ER (barC c) 0 : sProp 𝕄)) (Finset.mem_univ e)
  iintro ⟨⟨#HI, #HR⟩, Ha, Ho, Hd⟩
  isplitr; · iexact HI
  isplitr
  · isplitr
    · iapply (hr (prv c)); iexact HR
    · iapply (hr (nxt c)); iexact HR
  isplitl [Ha]; · iexact Ha
  isplitl [Ho] <;> iassumption

end Cert.Proof

end
-- ==== Proof.Launch.lean ====
/-
  The kernel's launch as one step of the host's program, and the whole run.
-/
module

public import proofs.«01_k».proof.Proof.Region

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ)

local notation "𝕄" => MT nD τ sig Unit (Elt F) ℕ UU ℕ

/-! ## The body's obligation -/

/-- A staged buffer at contents equal to X. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]
theorem stg_elim (c : Dev nD) (b : Ref sig .tc) (X Y : b.ty.Contents (Elt F)) (h : X = Y) : stg c b X ⊢ stPt c b Y := by
  unfold stg stPt; subst h
  iintro ⟨%f, %hf, H⟩; subst hf; iexact H
theorem stg_intro (c : Dev nD) (b : Ref sig .tc) (X : b.ty.Contents (Elt F)) : stPt c b X ⊢ stg c b X := by
  unfold stg stPt
  iintro H; iexists X; isplitr; · ipureintro; rfl
  iexact H

theorem before0 (c : Dev nD) (d) : (dats m 0 c).before (0 : Fin 8) t0_0 d = (ins m c).x := by
  unfold Dat.before
  rw [if_pos (fetch0_0 t0_0)]
  exact (read_win0 c t0_0 _).trans (V1_of m c main_arg0 (by decide))
theorem before1 (c : Dev nD) (d) : (dats m 0 c).before (1 : Fin 8) t0_0 d = (ins m c).wq := by
  unfold Dat.before
  rw [if_pos (fetch0_1 t0_0)]
  exact (read_win1 c t0_0 _).trans (V1_of m c main_arg1 (by decide))
theorem before2 (c : Dev nD) (d) : (dats m 0 c).before (2 : Fin 8) t0_0 d = (ins m c).k := by
  unfold Dat.before
  rw [if_pos (fetch0_2 t0_0)]
  exact (read_win2 c t0_0 _).trans (V1_of m c main_arg2 (by decide))
theorem before3 (c : Dev nD) (d) : (dats m 0 c).before (3 : Fin 8) t0_0 d = (ins m c).v := by
  unfold Dat.before
  rw [if_pos (fetch0_3 t0_0)]
  exact (read_win3 c t0_0 _).trans (V1_of m c main_arg3 (by decide))
theorem before4 (c : Dev nD) (d) : (dats m 0 c).before (4 : Fin 8) t0_0 d = (ins m c).wo := by
  unfold Dat.before
  rw [if_pos (fetch0_4 t0_0)]
  exact (read_win4 c t0_0 _).trans (V1_of m c main_arg4 (by decide))
theorem before5 (c : Dev nD) (d) : (dats m 0 c).before (5 : Fin 8) t0_0 d = (fun _ => nw c) := by
  unfold Dat.before
  rw [if_pos (fetch0_5 t0_0)]
  exact (read_win5 c t0_0 _).trans (V1_next m c)
theorem before6 (c : Dev nD) (d) : (dats m 0 c).before (6 : Fin 8) t0_0 d = (fun _ => pw c) := by
  unfold Dat.before
  rw [if_pos (fetch0_6 t0_0)]
  exact (read_win6 c t0_0 _).trans (V1_prev m c)

theorem prog_eq : (defs₀ (F := F) Proc.tc 0 (t0_0, cfg0.slots t0_0) : Prog (TpuEff nD τ sig (Elt F) Λ₀ .tc) PUnit) = cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scratch4 cc0_scratch5 := rfl

set_option maxRecDepth 4000 in
theorem body_ob (c : Dev nD) : BodyObligation (dats (F := F) m 0 c) (defs₀ (F := F)) 𝒱₀ () Set.univ := fun t => by
  rw [fin_N0 t]
  rw [bigSep_W0, bigSep_W0]
  simp only [owns_stg]
  rw [prog_eq, show (dats m 0 c).Φ t0_0.castSucc = iprop(Xk m c ∗ spare c) from rfl, show (dats m 0 c).Φ t0_0.succ = iprop(semVal (barC c) 0 ∗ zeros c ∗ spare c) from rfl,
    show (dats m 0 c).after 0 t0_0 = (ins m c).x from rfl,
    show (dats m 0 c).after 1 t0_0 = (ins m c).wq from rfl,
    show (dats m 0 c).after 2 t0_0 = (ins m c).k from rfl,
    show (dats m 0 c).after 3 t0_0 = (ins m c).v from rfl,
    show (dats m 0 c).after 4 t0_0 = (ins m c).wo from rfl,
    show (dats m 0 c).after 5 t0_0 = (fun _ => nw c) from rfl,
    show (dats m 0 c).after 6 t0_0 = (fun _ => pw c) from rfl,
    show (dats m 0 c).after 7 t0_0 = (outAt (ins m) c) from rfl]
  unfold Xk spare Dat.owesAt Pipeline.owesWithin
  rw [show (dats m 0 c).owed t0_0.castSucc = O₀ c from rfl, show (dats m 0 c).owed t0_0.succ = 0 from rfl]
  iintro ⟨⟨⟨⟨%κ, #HI⟩, #Hlev, Hbar, Htok, Hpool⟩, Hkv, Hctx, Hreg⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (stg_elim c cc0_stg0_0 _ (ins m c).x (before0 m c d0)) $$ H0
  ihave H1 := (stg_elim c cc0_stg1_0 _ (ins m c).wq (before1 m c d1)) $$ H1
  ihave H2 := (stg_elim c cc0_stg2_0 _ (ins m c).k (before2 m c d2)) $$ H2
  ihave H3 := (stg_elim c cc0_stg3_0 _ (ins m c).v (before3 m c d3)) $$ H3
  ihave H4 := (stg_elim c cc0_stg4_0 _ (ins m c).wo (before4 m c d4)) $$ H4
  ihave H5 := (stg_elim c cc0_stg5_0 _ (fun _ => nw c) (before5 m c d5)) $$ H5
  ihave H6 := (stg_elim c cc0_stg6_0 _ (fun _ => pw c) (before6 m c d6)) $$ H6
  ihave H7 := (stg_elim c cc0_stg7_0 _ _ rfl) $$ H7
  iapply (run_body (ins m) κ (invs_recs m κ) c) $$ [Hbar Htok Hpool Hkv Hctx HO H0 H1 H2 H3 H4 H5 H6 H7]
  · isplitr; · iexact HI
    isplitr; · iexact Hlev
    unfold runPre stages
    isplitl [Hbar]; · iexact Hbar
    isplitl [HO]; · iexists W; iexact HO
    isplitl [Htok]; · iexact Htok
    isplitl [Hpool]; · iexact Hpool
    isplitl [Hkv]; · iexact Hkv
    isplitl [Hctx]; · iexact Hctx
    iexists _
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  unfold runPost stages
  iintro ⟨HzB, Hz, Hkv, Hctx, ⟨H0, H1, H2, H3, H4, H5, H6, H7⟩, %W', HO⟩
  isplitl [HzB Hz Hkv Hctx Hreg]
  · isplitl [HzB]; · iexact HzB
    isplitl [Hz]; · iexact Hz
    isplitl [Hkv]; · iexact Hkv
    isplitl [Hctx]; · iexact Hctx
    iexact Hreg
  isplitl [HO]
  · iexists W'; isplitr; · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  isplitl [H4]; · iapply (stg_intro c cc0_stg4_0 _); iexact H4
  isplitl [H5]; · iapply (stg_intro c cc0_stg5_0 _); iexact H5
  isplitl [H6]; · iapply (stg_intro c cc0_stg6_0 _); iexact H6
  iapply (stg_intro c cc0_stg7_0 _); iexact H7

end Cert.Proof

end
-- ==== Proof.Whole.lean ====
/-
  The kernel's launch as one step of the host's program: what it is entered with and what it leaves.
-/
module

public import proofs.«01_k».proof.Proof.Launch

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ)

local notation "𝕄" => MT nD τ sig Unit (Elt F) ℕ UU ℕ

/-! ## The arrays after the kernel -/

theorem W2_out (c : Dev nD) : W2 m c (Proc.devRef .tc main_v17) = outAt (ins m) c := by
  unfold W2; exact Function.update_self (Proc.devRef (τ := τ) .tc main_v17) (outAt (ins m) c) (V1 m c)
theorem W2_ne (c : Dev nD) (b : Ref sig .tc) (h : b ≠ main_v17) : W2 m c (Proc.devRef .tc b) = V1 m c (Proc.devRef .tc b) := by
  unfold W2; exact Function.update_of_ne (StableHlo.devRef_ne_of_ne h) _ _

theorem arr_out (c : Dev nD) : (dats m 0 c).arrAt (7 : Fin 8) (0 + 1) = outAt (ins m) c := by
  have h := (dats m 0 c).arrAt_succ (7 : Fin 8) t0_0
  rw [show (cfg0.win (7 : Fin 8)).flush t0_0 = true from by decide, if_pos rfl] at h
  refine h.trans ?_
  have e := View.read_write_univ (Val := Elt F) (v := (win0_7.blk t0_0).view) ((dats m 0 c).arrAt (7 : Fin 8) 0) (outAt (ins m) c)
  exact (read_win7 c t0_0 _).symm.trans e

theorem arr_last (c : Dev nD) : (w : Fin 8) → (dats m 0 c).arrAt w (0 + 1) = W2 m c (Proc.devRef .tc (Pipeline.arrRef spec0 w))
  | 0 => ((dats m 0 c).arrAt_in (0 : Fin 8) rfl _).trans (W2_ne m c main_arg0 (by decide)).symm
  | 1 => ((dats m 0 c).arrAt_in (1 : Fin 8) rfl _).trans (W2_ne m c main_arg1 (by decide)).symm
  | 2 => ((dats m 0 c).arrAt_in (2 : Fin 8) rfl _).trans (W2_ne m c main_arg2 (by decide)).symm
  | 3 => ((dats m 0 c).arrAt_in (3 : Fin 8) rfl _).trans (W2_ne m c main_arg3 (by decide)).symm
  | 4 => ((dats m 0 c).arrAt_in (4 : Fin 8) rfl _).trans (W2_ne m c main_arg4 (by decide)).symm
  | 5 => ((dats m 0 c).arrAt_in (5 : Fin 8) rfl _).trans (W2_ne m c main_v10 (by decide)).symm
  | 6 => ((dats m 0 c).arrAt_in (6 : Fin 8) rfl _).trans (W2_ne m c main_v16 (by decide)).symm
  | 7 => (arr_out m c).trans (W2_out m c).symm

/-! ## What the kernel starts from and ends with -/

theorem held_none (c : Dev nD) (W : Valuation τ sig (Elt F)) : (StableHlo.held (c.tc : Thread nD τ) ∅ W : sProp 𝕄) = BI.emp := by
  unfold StableHlo.held; exact BI.bigSep_empty

theorem hin (c : Dev nD) :
    iprop(Pipeline.scopedRest spec0 c ∗ (∃ r, prngReg c r) ∗ StableHlo.held (c.tc : Thread nD τ) ∅ (V1 m c) ∗ Xk m c) ⊢ ((dats m 0 c).Φ 0 : sProp 𝕄) := by
  rw [show (dats m 0 c).Φ 0 = iprop(Xk m c ∗ spare c) from rfl, scopedRest0_eq, held_none]
  unfold spare
  iintro ⟨⟨Hk, Hs⟩, Hp, -, HX⟩
  isplitl [HX]; · iexact HX
  isplitl [Hk]; · iexact Hk
  isplitl [Hs] <;> iassumption

theorem hout (c : Dev nD) : ((dats m 0 c).Φ (Fin.last grid0.N) : sProp 𝕄)
    ⊢ iprop(Pipeline.scopedRest spec0 c ∗ (∃ r, prngReg c r) ∗ StableHlo.held (c.tc : Thread nD τ) ∅ (W2 m c) ∗ Pipeline.ownSems0 osem c ∗ semVal (barC c) 0) := by
  rw [show (dats m 0 c).Φ (Fin.last grid0.N) = iprop(semVal (barC c) 0 ∗ zeros c ∗ spare c) from rfl, scopedRest0_eq, held_none, zeros_eq]
  unfold spare
  iintro ⟨Hb, Hz, Hk, Hs, Hp⟩
  isplitl [Hk Hs]; · isplitl [Hk] <;> iassumption
  isplitl [Hp]; · iexact Hp
  isplitr; · iempintro
  isplitl [Hz] <;> iassumption

theorem O₀_pos {c : Dev nD} {g : GSem nD τ sig} {u : Unit} (h : 0 < O₀ c g u) : u ∈ L g ∧ 0 < lv g u := by
  cases u
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨h1, h2⟩ := OW_pos h
      refine ⟨?_, ?_⟩
      · unfold L; rw [if_pos h1]; exact Finset.mem_singleton_self _
      · rcases h2 with h2 | h2 <;> exact lt_of_lt_of_le (by omega : 0 < 2 + 0) h2
    · obtain rfl := tallyAt_pos' h
      exact ⟨by rw [L_tc]; exact Finset.mem_singleton_self _, by rw [lv_bar]; exact Nat.zero_lt_one⟩
  · obtain rfl := tallyAt_pos' h
    exact ⟨by rw [L_tc]; exact Finset.mem_singleton_self _, by rw [lv_bar]; exact Nat.zero_lt_one⟩

theorem owed_pos (c : Dev nD) : (t : Fin (grid0.N + 1)) → (g : GSem nD τ sig) → (i : Unit) → 0 < (dats m 0 c).owed t g i → i ∈ L g ∧ 0 < lv g i
  | ⟨0, _⟩, _, _, h => O₀_pos (c := c) h
  | ⟨_ + 1, _⟩, _, _, h => absurd h (Nat.lt_irrefl 0)

theorem share_full (c : Dev nD) (w : Fin 8) : (dats m 0 c).share w = fullShare := by
  unfold Dat.share; split <;> rfl

theorem stage_lv (c : Dev nD) (w : Fin 8) (s : Fin (spec0 w).nbuf) : lv ((c : Thread nD τ), .dma ((spec0 w).sem s)) () ≤ 0 := by
  have h := (by decide : ∀ (w : Fin 8) (s : Fin (spec0 w).nbuf), ((spec0 w).sem s).val < 8) w s
  show (if ((spec0 w).sem s).val < 24 then 0 else _) ≤ 0
  rw [if_pos (by omega)]

abbrev others : Finset (DevRef τ sig) := Pipeline.ucRefs τ sig \ Pipeline.arrRefs spec0

set_option backward.isDefEq.respectTransparency.types false in
def reg0 : Pipeline.RegionSeg (pcfgs (F := F)) adm (dats m) () defs₀ 𝒱₀ L lv 0 :=
  Pipeline.RegionSeg.ofTalk (pcfgs (F := F)) adm (dats m) () defs₀ 𝒱₀ L lv 0 osem own_facts
    ∅ others (Finset.empty_subset _) launch0.toP rfl (fun c => (body_ob m c).loose)
    (fun _ => 0) O₀ (fun c => (zero_add (O₀ c)).symm) (fun c => rfl) (fun _ => rfl) (share_full m)
    (fun c => V1 m c) (W2 m) (fun c b hb => by
      refine Function.update_of_ne (fun e => ?_) _ _
      subst e
      exact absurd (Finset.mem_sdiff.mp (Finset.mem_sdiff.mp hb).1).2 (by decide))
    (Tk m) (fun c => semVal (barC c) 0) (Xk m) (fun c => semVal (barC c) 0) (hopen m) (hin m) (hout m)
    (fun c => by iintro H; imodintro; iexact H)
    (fun _ => 0)
    ⟨fun c w s => by rw [L_tc]; exact Finset.mem_singleton_self _, stage_lv, owed_pos m⟩
    (fun _ => iprop(emp))
    (fun _ _ => rfl) (arr_last m)

/-- What a device has on entering the kernel, beside its buffers. -/
def enter (c : Dev nD) : sProp 𝕄 := iprop((∃ r, prngReg c r) ∗ Tk m c ∗ owes (c : Thread nD τ) (O₀ c) ∅)

theorem arr_sub : Pipeline.arrRefs spec0 ⊆ Pipeline.ucRefs τ sig := Pipeline.arrRefs_sub_ucRefs spec0 (by decide)

set_option backward.isDefEq.respectTransparency.types false in
theorem reg0_pre (c : Dev nD) : iprop(StableHlo.held (c : Thread nD τ) (Pipeline.ucRefs τ sig) (V1 m c) ∗ enter m c) ⊢ (reg0 m).pre c := by
  show _ ⊢ iprop(StableHlo.held (c.tc : Thread nD τ) (Pipeline.arrRefs spec0) (V1 m c) ∗ (∃ r, prngReg c r)
    ∗ (StableHlo.held (c.tc : Thread nD τ) others (V1 m c) ∗ emp) ∗ Tk m c ∗ ∃ Wd, owes (c : Thread nD τ) (0 + O₀ c) Wd)
  rw [StableHlo.held_sub_split (c.tc : Thread nD τ) arr_sub (V1 m c), zero_add]
  unfold enter
  iintro ⟨⟨Ha, Ho⟩, Hp, HT, HO⟩
  isplitl [Ha]; · iexact Ha
  isplitl [Hp]; · iexact Hp
  isplitl [Ho]
  · isplitl [Ho]; · iexact Ho
    iempintro
  isplitl [HT]; · iexact HT
  iexists ∅; iexact HO

set_option backward.isDefEq.respectTransparency.types false in
theorem reg0_post (c : Dev nD) : (reg0 m).post c
    ⊢ iprop((StableHlo.held (c : Thread nD τ) (Pipeline.ucRefs τ sig) (W2 m c) ∗ semVal (barC c) 0) ∗ ∃ W, owes (c : Thread nD τ) (0 : CellTallies nD τ sig Unit) W) := by
  show iprop(StableHlo.held (c.tc : Thread nD τ) (Pipeline.arrRefs spec0) (W2 m c) ∗ (∃ r, prngReg c r)
    ∗ (StableHlo.held (c.tc : Thread nD τ) others (W2 m c) ∗ emp) ∗ semVal (barC c) 0 ∗ ∃ Wd, owes (c : Thread nD τ) (0 : CellTallies nD τ sig Unit) Wd) ⊢ _
  rw [StableHlo.held_sub_split (c.tc : Thread nD τ) arr_sub (W2 m c)]
  iintro ⟨Ha, -, ⟨Ho, -⟩, Hb, HO⟩
  isplitr [HO]
  · isplitl [Ha Ho]
    · isplitl [Ha] <;> iassumption
    · iexact Hb
  · iexact HO

end Cert.Proof

end
-- ==== Proof.Main.lean ====
/-
  The whole run of the kernel's program, at any float values: what each device's result buffer ends at.
-/
module

public import proofs.«01_k».proof.Proof.Start
public import proofs.«01_k».proof.Proof.Whole

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ)

local notation "𝕄" => MT nD τ sig Unit (Elt F) ℕ UU ℕ

variable (ρ : Dev nD → PrngReg)

/-- What of a device's launch holdings is not the protocol's. -/
def bundle (c : Dev nD) : sProp 𝕄 :=
  iprop(StableHlo.held (c : Thread nD τ) (Pipeline.ucRefs τ sig) (V0 m c) ∗ dues c ∗ owes (c : Thread nD τ) (O₀ c) ∅ ∗ ∃ r, prngReg c r)

/-- What a device runs the whole program from. -/
def begin_ (c : Dev nD) : sProp 𝕄 := iprop(StableHlo.held (c : Thread nD τ) (Pipeline.ucRefs τ sig) (V0 m c) ∗ enter m c)

theorem begin_intro (κ : GSem nD τ sig → ℕ) (c : Dev nD) : iprop(records m κ ∗ (linear c ∗ bundle m c)) ⊢ (begin_ m c : sProp 𝕄) := by
  unfold bundle begin_ enter Tk
  iintro ⟨#HR, Hl, Hh, Hd, HO, Hp⟩
  isplitl [Hh]; · iexact Hh
  isplitl [Hp]; · iexact Hp
  isplitr [HO]
  · isplitl [Hl]
    · iexists κ
      iapply (share_intro m κ c)
      isplitr; · iexact HR
      iexact Hl
    · iexact Hd
  · iexact HO

theorem unscoped_bar (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What one device is launched with. -/
def given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G₀ c)

theorem given_core (c : Dev nD) : given m ρ c ⊢ (iprop(bundle m c ∗ (semVal (barC c) 0 ∗ G₀ c)) : sProp 𝕄) := by
  unfold given
  rw [show unscopedBufs c (fun b => m ((c : Thread nD τ).loc b)) = StableHlo.held (c : Thread nD τ) (Pipeline.ucRefs τ sig) (V0 m c) from
    Pipeline.unscopedBufs_held c (V0 m c), unscoped_bar]
  unfold bundle
  iintro ⟨Hh, Hus, HO, Hcr, Hp, HG⟩
  ihave Hd := (creds (F := F) c) $$ Hcr
  isplitl [Hh Hd HO Hp]
  · isplitl [Hh]; · iexact Hh
    isplitl [Hd]; · iexact Hd
    isplitl [HO]; · iexact HO
    iexists (ρ c); iexact Hp
  isplitl [Hus] <;> iassumption

theorem bars_at (Φ : GSem nD τ sig → sProp 𝕄) : bigSep barCells Φ = bigSep Finset.univ fun c : Dev nD => Φ (barC c) := by
  unfold barCells; exact BI.bigSep_map (s := Finset.univ) barEmb
theorem scs_at (Φ : GSem nD τ sig → sProp 𝕄) : bigSep scCells Φ
    = bigSep Finset.univ fun c : Dev nD => bigSep Finset.univ fun k : KS => Φ ((c : Thread nD τ), osem k) := by
  unfold scCells; rw [BI.bigSep_map, BI.bigSep_univ_prod]; rfl

theorem pair {Φ Ψ : Dev nD → sProp 𝕄} : iprop(bigSep Finset.univ Φ ∗ bigSep Finset.univ Ψ) ⊢ bigSep Finset.univ (fun c => iprop(Φ c ∗ Ψ c)) :=
  Entails.of_eq (bigSep_sep' Finset.univ Φ Ψ).symm
theorem unpair {Φ Ψ : Dev nD → sProp 𝕄} : bigSep Finset.univ (fun c => iprop(Φ c ∗ Ψ c)) ⊢ iprop(bigSep Finset.univ Φ ∗ bigSep Finset.univ Ψ) :=
  Entails.of_eq (bigSep_sep' Finset.univ Φ Ψ)

theorem init : iprop((bigSep Finset.univ fun c : Dev nD => given m ρ c) ∗ levAts L lv) ⊢ (|={Set.univ}=> bigSep Finset.univ (begin_ m) : sProp 𝕄) := by
  have hv : bigSep Finset.univ (fun c : Dev nD => (semVal (barC c) 0 : sProp 𝕄)) ⊢ bigSep barCells (fun g => (semVal g 0 : sProp 𝕄)) :=
    Entails.of_eq (bars_at (fun g => semVal g 0)).symm
  have hat : bigSep barCells (fun g => (atPos ER g 0 ∅ 0 : sProp 𝕄)) ⊢ bigSep Finset.univ (fun c : Dev nD => (atPos ER (barC c) 0 ∅ 0 : sProp 𝕄)) :=
    Entails.of_eq (bars_at (fun g => atPos ER g 0 ∅ 0))
  have hre : bigSep barCells (fun g => (reached ER g 0 : sProp 𝕄)) ⊢ bigSep Finset.univ (fun c : Dev nD => (reached ER (barC c) 0 : sProp 𝕄)) :=
    Entails.of_eq (bars_at (fun g => reached ER g 0))
  have hop : bigSep scCells (fun g => (openTok ER g : sProp 𝕄))
      ⊢ bigSep Finset.univ (fun c : Dev nD => bigSep Finset.univ fun k : KS => (openTok ER ((c : Thread nD τ), osem k) : sProp 𝕄)) :=
    Entails.of_eq (scs_at (fun g => openTok ER g))
  iintro ⟨H, -⟩
  ihave H' := (show (bigSep Finset.univ fun c : Dev nD => given m ρ c)
      ⊢ (bigSep Finset.univ fun c : Dev nD => iprop(bundle m c ∗ (semVal (barC c) 0 ∗ G₀ c)) : sProp 𝕄) from bigSep_mono fun c _ => given_core m ρ c) $$ H
  ihave H2 := unpair $$ H'; icases H2 with ⟨HB, H3⟩
  ihave H4 := unpair $$ H3; icases H4 with ⟨Hv, HG⟩
  ihave Hu := (show bigSep Finset.univ (G₀ (F := F)) ⊢ BI.own (ER (launchOf barCells scCells talkToks)) from
    Entails.of_eq (bigSep_onDev (F := F) 0 (BI.own (ER (launchOf barCells scCells talkToks))))) $$ HG
  imod (Rounds.fund_launch ER (Rd (blk (ins m))) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => begin_intro m κ c)
  isplitr
  · unfold records
    isplitr
    · unfold invs; iexact Hinv
    iapply hre; iexact Hr
  iapply pair
  isplitr [HB]
  · unfold linear
    iapply pair; isplitl [Hat]; · iapply hat $$ Hat
    iapply pair; isplitl [Hopen]; · iapply hop $$ Hopen
    iapply (toks_around (F := F))
    iapply (Entails.of_eq (toks_eq (F := F))) $$ Htok
  · iexact HB

theorem unscoped_eq : ∀ sm : SemLoc sig, sm.isScoped .tc = false → sm = .reg barS := by decide

theorem W2_arg (c : Dev nD) (b : Ref sig .tc) (h : b ≠ main_v17) (h' : b ∉ hostOps0_W) : W2 m c (Proc.devRef .tc b) = m ((c : Thread nD τ).loc b) :=
  (W2_ne m c b h).trans (V1_of m c b h')

/-- The program's steps on device c: the host's own lines, then the kernel. -/
abbrev steps (c : Dev nD) : List (Pipeline.Seg (pcfgs (F := F)) adm (dats m) () defs₀ 𝒱₀ L lv) :=
  segs m 𝒱₀ L lv (fun _ => enter m) () (dats m) (reg0 m) c

def endsAt (c : Dev nD) (s : MemSt nD τ sig (Elt F)) : Prop :=
  (s.mem ((c : Thread nD τ).loc main_v17) = outAt (ins m) c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.sem (barC c) = 0

theorem fin (c : Dev nD) (s' : Phys nD τ sig (Elt F)) :
    iprop((StableHlo.held (c : Thread nD τ) (Pipeline.ucRefs τ sig) (W2 m c) ∗ semVal (barC c) 0) ∗ SI s')
      ⊢ (|={Set.univ}=> iprop(⌜endsAt m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (W2 m c) s') $$ [Hh HSI]
  · isplitl [Hh] <;> iassumption
  icases Hr with ⟨%h, HSI⟩
  imodintro
  isplitr
  · ipureintro
    have at_ (b : Ref sig .tc) (hb : b.isScoped = false) : s'.mem.mem ((c : Thread nD τ).loc b) = W2 m c (Proc.devRef .tc b) :=
      h (Proc.devRef .tc b) (Finset.mem_filter.mpr ⟨StableHlo.devRef_mem_tcRefs b, by simpa using hb⟩)
    exact ⟨⟨(at_ main_v17 (by decide)).trans (W2_out m c), (at_ main_arg0 (by decide)).trans (W2_arg m c main_arg0 (by decide) (by decide)),
      (at_ main_arg1 (by decide)).trans (W2_arg m c main_arg1 (by decide) (by decide)), (at_ main_arg2 (by decide)).trans (W2_arg m c main_arg2 (by decide) (by decide)),
      (at_ main_arg3 (by decide)).trans (W2_arg m c main_arg3 (by decide) (by decide)), (at_ main_arg4 (by decide)).trans (W2_arg m c main_arg4 (by decide) (by decide))⟩,
      by simpa using hb⟩
  · iexact HSI

set_option backward.isDefEq.respectTransparency.types false in
/-- The run: it ends on every device, with the result at what the gathered blocks give, the arguments unchanged and every semaphore at zero. -/
theorem run_main : θ_run defs (onTc (τ := τ) (main (F := F))) ⟨m, fun _ => 0, ρ⟩ (fun r => (∀ c : Dev nD, endsAt m c r.2) ∧ r.2.sem = fun _ => 0) :=
  Pipeline.θ_run_regions_kit_dev_sems (pcfgs (F := F)) adm (dats m) () cellOf_inj EP defs₀ 𝒱₀ L lv m ρ main (steps m)
    (fun c Q => by
      rewrite [main_chain c, Pipeline.Seg.run_eq_chain,
        show (steps m c).map Pipeline.Seg.prog = [StableHlo.seq (hostOps0 c), Prog.lift (.customCall (Pipeline.entry 0) ())] from rfl]
      dsimp (config := { failIfUnchanged := false }) only
      exact BIBase.Entails.rfl)
    (fun c => by simp only [steps, segs, Pipeline.Seg.pipes_host, Pipeline.Seg.pipes_region, Pipeline.Seg.pipes_nil]; decide)
    O₀ L_of_ne G₀ u₀
    (by
      unfold u₀ G₀
      iintro Hu
      ihave H := (ownU_pair _ _) $$ Hu
      icases H with ⟨HP, HX⟩
      imodintro
      isplitl [HP]; · iexact HP
      rw [bigSep_onDev]; iexact HX)
    (begin_ m) (fun c => iprop(StableHlo.held (c : Thread nD τ) (Pipeline.ucRefs τ sig) (W2 m c) ∗ semVal (barC c) 0))
    (fun c => ⟨BIBase.Entails.rfl, reg0_pre m c, reg0_post m c⟩)
    (init m ρ)
    (endsAt m)
    (fin m)
    (fun s h hs => ⟨h, sem_eq_zero hs fun c sm hsm => by
        obtain rfl := unscoped_eq sm hsm
        exact (h c).2⟩)

end Cert.Proof

end
-- ==== Proof.Frames.lean ====
/-
  The frames: the kernel's two readings from the one run, the reference from its own.
-/
module

public import proofs.«01_k».proof.Proof.Main
public import proofs.«01_k».proof.Defs
public import proofs.«01_k».proof.Proof.Gen.Kernel
public import proofs.«01_k».proof.Proof.Gen.Kernel.Launch
public import proofs.«01_k».proof.Proof.Gen.ReferenceIdeal.Run

@[expose] public section

noncomputable section

namespace Cert.Proof

open Idealize.ShloMosaic Idealize.SL.Sem

section Same

variable {F : FTy → Type} [FloatOps F]

set_option maxHeartbeats 4000000

/-- The two body tables hold one body: label by label they are the same program. -/
theorem same_defs₀ : Cert.Kernel.defs₀ (F := F) = Cert.KernelIdeal.defs₀ (F := F) := by
  funext pr ℓ a
  match pr, ℓ, a with
  | .tc, ⟨0, _⟩, (_, _) => rfl
  | .scScalar _, ⟨0, _⟩, _ => rfl
  | .scVector _ _, ⟨0, _⟩, _ => rfl

/-- So the pipelines over them are the same table too. -/
theorem same_defs : Cert.Kernel.defs (F := F) = Cert.KernelIdeal.defs (F := F) :=
  congrArg (Pipeline.defs (Cert.Kernel.pcfgs (F := F))) same_defs₀

end Same

set_option maxHeartbeats 4000000 in
/-- The kernel on words runs to its end, leaving its arguments and every semaphore as they were. -/
theorem frame_kernel : Cert.quiescent_Kernel := fun m ρ _ => by
  rw [same_defs]
  exact (θ_run Cert.KernelIdeal.defs _ _).mono (fun _ h => ⟨fun c => (h.1 c).1.2, h.2⟩) (run_main (F := Bits) m ρ)

/-- So does the kernel on extended reals. -/
theorem frame_ideal : Cert.quiescent_KernelIdeal := fun m ρ _ =>
  (θ_run Cert.KernelIdeal.defs _ _).mono (fun _ h => ⟨fun c => (h.1 c).1.2, h.2⟩) (run_main (F := Ideal) m ρ)

/-- And the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/-
  A row of weights over extended reals, and what masking does to it: keys scored at minus infinity may be left out.
-/
module

public import Idealize.ShloMosaic.Lib.Pointwise

@[expose] public section

noncomputable section

namespace Cert.Proof

open Idealize.ShloMosaic

/-! ## Numbers among the extended reals -/

/-- A value that is a number. -/
def IsNum (a : EReal) : Prop := ∃ r : ℝ, (r : EReal) = a

theorem IsNum.mul {a b : EReal} : IsNum a → IsNum b → IsNum (a * b) := fun ⟨x, hx⟩ ⟨y, hy⟩ => ⟨x * y, by rw [EReal.coe_mul, hx, hy]⟩
theorem IsNum.add {a b : EReal} : IsNum a → IsNum b → IsNum (a + b) := fun ⟨x, hx⟩ ⟨y, hy⟩ => ⟨x + y, by rw [EReal.coe_add, hx, hy]⟩
theorem IsNum.sum {ι : Type} (s : Finset ι) (f : ι → EReal) (h : ∀ i, IsNum (f i)) : IsNum (∑ i ∈ s, f i) :=
  Finset.sum_induction f IsNum (fun _ _ => IsNum.add) ⟨0, EReal.coe_zero⟩ fun i _ => h i

theorem isNum_of_abs_lt_top {a : EReal} (h : max a (-a) < ⊤) : IsNum a := by
  induction a using EReal.rec with
  | bot => simp at h
  | top => simp at h
  | coe r => exact ⟨r, rfl⟩

/-- A nonnegative number goes in and out of a sum. -/
theorem sum_mul_num {ι : Type} (s : Finset ι) (f : ι → EReal) {c : EReal} (h0 : 0 ≤ c) (ht : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- Scaling the queries scales the score. -/
theorem score_scale {ι : Type} [Fintype ι] (q k : ι → EReal) {c : EReal} (h0 : 0 ≤ c) (ht : c ≠ ⊤) :
    ∑ d, q d * c * k d = (∑ d, q d * k d) * c := by
  rw [sum_mul_num _ _ h0 ht]
  exact Finset.sum_congr rfl fun d _ => by rw [mul_assoc, mul_comm c, ← mul_assoc]

/-! ## The weights -/

/-- The largest of finitely many scores. -/
def top {ι : Type} [Fintype ι] (s : ι → EReal) : EReal := Finset.univ.fold max ⊥ s
/-- The sum of the exponentials, taken against the largest score. -/
def mass {ι : Type} [Fintype ι] (s : ι → EReal) : EReal := ∑ j, Ideal.exp (s j - top s)
/-- The values weighted. -/
def att {ι : Type} [Fintype ι] (s v : ι → EReal) : EReal := ∑ j, Ideal.div (Ideal.exp (s j - top s)) (mass s) * v j

theorem top_eq_sup {ι : Type} [Fintype ι] (s : ι → EReal) : top s = Finset.univ.sup s := rfl

theorem exp_nonneg (a : EReal) : 0 ≤ Ideal.exp a := by
  induction a using EReal.rec with
  | bot => exact le_refl _
  | top => exact le_top
  | coe r => exact EReal.coe_nonneg.mpr (Real.exp_pos r).le

section Masked

variable {ι κ : Type} [Fintype ι] [Fintype κ] (e : κ → ι) (s v : ι → EReal)

theorem top_masked (hm : ∀ j, j ∉ Set.range e → s j = ⊥) : top s = top (s ∘ e) := by
  rw [top_eq_sup, top_eq_sup]
  apply le_antisymm
  · refine Finset.sup_le fun j _ => ?_
    by_cases hj : j ∈ Set.range e
    · obtain ⟨t, rfl⟩ := hj
      exact Finset.le_sup (f := s ∘ e) (Finset.mem_univ t)
    · rw [hm j hj]; exact bot_le
  · exact Finset.sup_le fun t _ => Finset.le_sup (f := s) (Finset.mem_univ (e t))

theorem exp_masked (hm : ∀ j, j ∉ Set.range e → s j = ⊥) (M : EReal) (j : ι) (hj : j ∉ Set.range e) : Ideal.exp (s j - M) = 0 := by
  rw [hm j hj, EReal.bot_sub]; rfl

theorem mass_masked (he : Function.Injective e) (hm : ∀ j, j ∉ Set.range e → s j = ⊥) : mass s = mass (s ∘ e) := by
  unfold mass
  rw [← top_masked e s hm]
  exact (Fintype.sum_of_injective e he _ _ (fun j hj => exp_masked e s hm _ j hj) fun _ => rfl).symm

/-- With a key scored by a number, and every score a number, the sum is not zero. -/
theorem mass_ne_zero [Nonempty κ] (w : κ → EReal) (hw : ∀ t, IsNum (w t)) : mass w ≠ 0 := by
  obtain ⟨t, -, ht⟩ := Finset.exists_mem_eq_sup Finset.univ Finset.univ_nonempty w
  have h1 : Ideal.exp (w t - top w) = 1 := by
    rw [top_eq_sup, ht]
    obtain ⟨r, hr⟩ := hw t
    rw [← hr, ← EReal.coe_sub, sub_self]
    show ((Real.exp 0 : ℝ) : EReal) = 1
    rw [Real.exp_zero, EReal.coe_one]
  have h2 : Ideal.exp (w t - top w) ≤ mass w := Finset.single_le_sum (f := fun j => Ideal.exp (w j - top w)) (fun j _ => exp_nonneg _) (Finset.mem_univ t)
  rw [h1] at h2
  exact (lt_of_lt_of_le zero_lt_one h2).ne'

/-- Keys scored at minus infinity may be left out. -/
theorem att_masked [Nonempty κ] (he : Function.Injective e) (hm : ∀ j, j ∉ Set.range e → s j = ⊥) (hs : ∀ t, IsNum (s (e t))) :
    att s v = att (s ∘ e) (v ∘ e) := by
  unfold att
  rw [← mass_masked e s he hm, ← top_masked e s hm]
  refine (Fintype.sum_of_injective e he _ _ (fun j hj => ?_) fun _ => rfl).symm
  have hz : mass s ≠ 0 := by rw [mass_masked e s he hm]; exact mass_ne_zero _ hs
  rw [exp_masked e s hm _ j hj]
  unfold Ideal.div
  rw [if_neg hz, zero_mul, zero_mul]

end Masked

end Cert.Proof

end
-- ==== Proof.KernelValue.lean ====
/-
  The kernel's result read at an index, over extended reals.
-/
module

public import proofs.«01_k».proof.Proof.Ends
public import proofs.«01_k».proof.Proof.Softmax

@[expose] public section

noncomputable section

namespace Cert.Proof

open Idealize.ShloMosaic Idealize.SL.Sem Cert.KernelIdeal Cert.KernelIdeal.Gen

set_option maxRecDepth 16384
set_option maxHeartbeats 4000000

theorem ofBits_bot : Ideal.ofBits FTy.f32 4286578688#32 = ⊥ := by simp [Ideal.ofBits, Ideal.ieee]

/-! ## A block of 64 rows -/

/-- The rows from o on of the queries against 2048 keys. -/
def rowAtt (q : FVec Ideal S8x256x64 .bf16) (k v : Vec Ideal S1x2x4x32x64x64 .bf16) (o : ℕ) (ho : o + 64 ≤ 256) (b : Fin 2) (h : Fin 4) (t d : Fin 64) : EReal :=
  att (fun x : Fin 2048 => ∑ d', q (ix3 ⟨b.val * 4 + h.val, by omega⟩ ⟨o + t.val, by omega⟩ d') * k (ix6 0 b h ⟨x.val / 64, by omega⟩ ⟨x.val % 64, by omega⟩ d'))
    fun x => v (ix6 0 b h ⟨x.val / 64, by omega⟩ ⟨x.val % 64, by omega⟩ d)

section Rows

variable (q : FVec Ideal S8x256x64 .bf16) (k v : Vec Ideal S1x2x4x32x64x64 .bf16) (b : Fin 2) (h : Fin 4) (t d : Fin 64)

theorem batch_eq : (⟨(b.val * 4 + h.val) / 4, by omega⟩ : Fin 2) = b := Fin.ext (show (b.val * 4 + h.val) / 4 = b.val by omega)
theorem head_eq : (⟨(b.val * 4 + h.val) % 4, by omega⟩ : Fin 4) = h := Fin.ext (show (b.val * 4 + h.val) % 4 = h.val by omega)

theorem rows0 : k0_pay6 q k v (ix4 b h t d) = rowAtt q k v 0 (by decide) b h t d := by
  unfold rowAtt att mass top
  rw [← ofBits_bot]
  pointwise [k0_pay6]
  simp only [batch_eq, head_eq]
theorem rows1 : k0_pay9 (k0_pay7 q) (k0_pay8 k) v (ix4 b h t d) = rowAtt q k v 64 (by decide) b h t d := by
  unfold rowAtt att mass top
  rw [← ofBits_bot]
  pointwise [k0_pay9, k0_pay8, k0_pay7]
  simp only [batch_eq, head_eq]
theorem rows2 : k0_pay13 (k0_pay10 v) (k0_pay11 q k) (k0_pay12 q k) (ix4 b h t d) = rowAtt q k v 128 (by decide) b h t d := by
  unfold rowAtt att mass top
  rw [← ofBits_bot]
  pointwise [k0_pay13, k0_pay12, k0_pay11, k0_pay10]
  simp only [batch_eq, head_eq]
theorem rows3 : k0_pay15 (k0_pay14 q k v) (ix4 b h t d) = rowAtt q k v 192 (by decide) b h t d := by
  unfold rowAtt att mass top
  rw [← ofBits_bot]
  pointwise [k0_pay15, k0_pay14]
  simp only [batch_eq, head_eq]

end Rows

/-! ## The gathered keys and values -/

section Gathered

variable (J : Dev nD → Ins Ideal) (c : Dev nD)

theorem kv_idx (p o : ℕ) (hp : p < 2) (ho : o + 64 ≤ 256) (X : Dev nD → Blk Ideal) (b : Fin 2) (h : Fin 4) (n : Fin 32) (t d : Fin 64) :
    kvLd X c p o hp ho (ix6 0 b h n t d) = X (src c n.val) (ix6 ⟨p, hp⟩ b h 0 ⟨o + t.val, by omega⟩ d) := by
  unfold kvLd G
  show X (src c ((kvR p o (kv_inb hp ho)).toLoadRect.idx (ix6 0 b h n t d) (3 : Fin 6)).val) (norm ((kvR p o (kv_inb hp ho)).toLoadRect.idx (ix6 0 b h n t d))) = _
  have h3 : ((kvR p o (kv_inb hp ho)).toLoadRect.idx (ix6 0 b h n t d) (3 : Fin 6)).val = n.val := by
    show 0 + 1 * n.val = n.val; omega
  rw [h3]
  congr 1
  funext a
  apply Fin.ext
  fin_cases a
  · show p + 1 * 0 = p; omega
  · show 0 + 1 * b.val = b.val; omega
  · show 0 + 1 * h.val = h.val; omega
  · rfl
  · show o + 1 * t.val = o + t.val; omega
  · show 0 + 1 * d.val = d.val; omega

theorem front_ix (p : Fin 2) (b : Fin 2) (h : Fin 4) (t : Fin 256) (d : Fin 64) : front (ix6 p b h 0 t d) = ix6 0 b h 0 t d := by
  funext a
  match a with
  | 0 => rfl | 1 => rfl | 2 => rfl | 3 => rfl | 4 => rfl | 5 => rfl
theorem key_block (k : Vec Ideal S2x256x4x64 .bf16) (b : Fin 2) (h : Fin 4) (t : Fin 256) (d : Fin 64) : k0_pay1 k (ix6 0 b h 0 t d) = k (ix4 b t h d) := by
  pointwise [k0_pay1]
theorem value_block (v : Vec Ideal S2x256x4x64 .bf16) (b : Fin 2) (h : Fin 4) (t : Fin 256) (d : Fin 64) : k0_pay2 v (ix6 0 b h 0 t d) = v (ix4 b t h d) := by
  pointwise [k0_pay2]

theorem key_at (o : ℕ) (hp : 0 < 2) (ho : o + 64 ≤ 256) (b : Fin 2) (h : Fin 4) (n : Fin 32) (t d : Fin 64) :
    kvLd (blk J) c 0 o hp ho (ix6 0 b h n t d) = (J (src c n.val)).k (ix4 b ⟨o + t.val, by omega⟩ h d) := by
  rw [kv_idx]
  exact (congrArg (k0_pay1 (J (src c n.val)).k) (front_ix ⟨0, hp⟩ b h ⟨o + t.val, by omega⟩ d)).trans (key_block _ b h ⟨o + t.val, by omega⟩ d)

theorem value_at (o : ℕ) (hp : 1 < 2) (ho : o + 64 ≤ 256) (b : Fin 2) (h : Fin 4) (n : Fin 32) (t d : Fin 64) :
    kvLd (blk J) c 1 o hp ho (ix6 0 b h n t d) = (J (src c n.val)).v (ix4 b ⟨o + t.val, by omega⟩ h d) := by
  rw [kv_idx]
  exact (congrArg (k0_pay2 (J (src c n.val)).v) (front_ix ⟨1, hp⟩ b h ⟨o + t.val, by omega⟩ d)).trans (value_block _ b h ⟨o + t.val, by omega⟩ d)

/-! ## The result -/

/-- The query of row t, before it is scaled. -/
def qRow (x : Vec Ideal S2x256x512 .bf16) (wq : Vec Ideal S512x256 .bf16) (b : Fin 2) (t : Fin 256) (h : Fin 4) (d : Fin 64) : EReal :=
  ∑ y : Fin 512, x (ix3 b t y) * wq (ix2 y ⟨h.val * 64 + d.val, by omega⟩)

theorem q_at (b : Fin 2) (h : Fin 4) (t : Fin 256) (d : Fin 64) :
    qAt J c (ix3 ⟨b.val * 4 + h.val, by omega⟩ t d) = qRow (J c).x (J c).wq b t h d * Ideal.ofBits FTy.f32 1040187392#32 := by
  unfold qAt qRow
  pointwise [k0_pay5, k0_pay3, k0_pay4]

/-- The context of row t: its query against the keys of the same block of 64 on every device. -/
def ctxRow (b : Fin 2) (h : Fin 4) (t : Fin 256) (d : Fin 64) : EReal :=
  att (fun x : Fin 2048 => (∑ d', qRow (J c).x (J c).wq b t h d' * (J (src c (x.val / 64))).k (ix4 b ⟨t.val / 64 * 64 + x.val % 64, by omega⟩ h d'))
      * Ideal.ofBits FTy.f32 1040187392#32)
    fun x => (J (src c (x.val / 64))).v (ix4 b ⟨t.val / 64 * 64 + x.val % 64, by omega⟩ h d)

theorem scale_eq : Ideal.ofBits FTy.f32 1040187392#32 = ((8388608 * (2 ^ 26)⁻¹ : ℝ) : EReal) := by
  rw [EReal.coe_mul]; simp [Ideal.ofBits, Ideal.ieee]
theorem scale_nonneg : 0 ≤ Ideal.ofBits FTy.f32 1040187392#32 := by rw [scale_eq]; exact EReal.coe_nonneg.mpr (by positivity)
theorem scale_ne_top : Ideal.ofBits FTy.f32 1040187392#32 ≠ ⊤ := by rw [scale_eq]; exact EReal.coe_ne_top _
theorem scale_num : IsNum (Ideal.ofBits FTy.f32 1040187392#32) := ⟨_, scale_eq.symm⟩

theorem rowAtt_eq (b : Fin 2) (h : Fin 4) (t : Fin 256) (d : Fin 64) (o : ℕ) (ho : o + 64 ≤ 256) (hp0 : 0 < 2) (hp1 : 1 < 2) (ht : o = t.val / 64 * 64) :
    rowAtt (qAt J c) (kvLd (blk J) c 0 o hp0 ho) (kvLd (blk J) c 1 o hp1 ho) o ho b h ⟨t.val % 64, by omega⟩ d = ctxRow J c b h t d := by
  subst ht
  unfold rowAtt ctxRow
  have et : (⟨t.val / 64 * 64 + t.val % 64, by omega⟩ : Fin 256) = t := Fin.ext (show t.val / 64 * 64 + t.val % 64 = t.val by omega)
  congr 1
  · funext x
    rw [← score_scale _ _ scale_nonneg scale_ne_top]
    refine Finset.sum_congr rfl fun d' _ => ?_
    rw [key_at, et, q_at]
  · funext x
    rw [value_at]

theorem row_ix (b : Fin 2) (h : Fin 4) (t : Fin 256) (d : Fin 64) : row (ix4 b h t d) = ix4 b h ⟨t.val % 64, by omega⟩ d := by
  funext a; fin_cases a <;> rfl

theorem ctx_at (b : Fin 2) (h : Fin 4) (t : Fin 256) (d : Fin 64) : stack (ctxAt J c) (ix4 b h t d) = ctxRow J c b h t d := by
  unfold stack
  rw [row_ix]
  show ctxAt J c (t.val / 64) _ = _
  have h4 : t.val / 64 = 0 ∨ t.val / 64 = 1 ∨ t.val / 64 = 2 ∨ t.val / 64 = 3 := by omega
  rcases h4 with h4 | h4 | h4 | h4 <;> rw [h4]
  · exact (rows0 _ _ _ _ _ _ _).trans (rowAtt_eq J c b h t d 0 _ _ _ (by omega))
  · exact (rows1 _ _ _ _ _ _ _).trans (rowAtt_eq J c b h t d 64 _ _ _ (by omega))
  · exact (rows2 _ _ _ _ _ _ _).trans (rowAtt_eq J c b h t d 128 _ _ _ (by omega))
  · exact (rows3 _ _ _ _ _ _ _).trans (rowAtt_eq J c b h t d 192 _ _ _ (by omega))

theorem out_at (b : Fin 2) (t : Fin 256) (e : Fin 512) :
    outAt J c (ix3 b t e) = ∑ y : Fin 256, ctxRow J c b ⟨y.val / 64, by omega⟩ t ⟨y.val % 64, by omega⟩ * (J c).wo (ix2 y e) := by
  unfold outAt
  pointwise [k0_pay16]
  simp only [ctx_at]

end Gathered

end Cert.Proof

end
-- ==== Proof.RefValue.lean ====
/-
  The reference's result read at an index, over extended reals.
-/
module

public import proofs.«01_k».proof.Proof.Gen.ReferenceIdeal.Read
public import proofs.«01_k».proof.Proof.Softmax

@[expose] public section

noncomputable section

namespace Cert.Proof

open Idealize.ShloMosaic Idealize.SL.Sem Cert.ReferenceIdeal Cert.ReferenceIdeal.Gen Cert.ReferenceIdeal.Read

set_option maxRecDepth 16384
set_option maxHeartbeats 4000000

/-! ## Which keys a query sees -/

/-- Floor division of a position by 64, as the words compute it, -/
def quot (x : BitVec 32) : BitVec 32 :=
  Scalar.select
    (IntOp.andi
      (IntOp.cmpi CmpIPredicate.ne (if x = 0 then 0 else if x.msb = true then (-1 : BitVec 32) else 1) (if 64#32 = 0 then 0 else if (64#32).msb = true then (-1 : BitVec 32) else 1))
      (IntOp.cmpi CmpIPredicate.ne (IntOp.remsi ArithUnit.host x 64#32) 0#32))
    (IntOp.subi (IntOp.divsi ArithUnit.host x 64#32) 1#32) (IntOp.divsi ArithUnit.host x 64#32)
/-- and the remainder of a block's number by 4. -/
def rem4 (x : BitVec 32) : BitVec 32 :=
  let y := Scalar.select (IntOp.cmpi CmpIPredicate.eq 4#32 0#32) 1#32 4#32
  Scalar.select
    (IntOp.andi
      (IntOp.cmpi CmpIPredicate.ne (IntOp.cmpi CmpIPredicate.slt (IntOp.remsi ArithUnit.host x y) 0#32) (IntOp.cmpi CmpIPredicate.slt y 0#32))
      (IntOp.cmpi CmpIPredicate.ne (IntOp.remsi ArithUnit.host x y) 0#32))
    (IntOp.addi (IntOp.remsi ArithUnit.host x y) y) (IntOp.remsi ArithUnit.host x y)

theorem quot_at : ∀ (a : Fin 128) (b : Fin 64), quot (BitVec.ofNat 32 (a.val * 64 + b.val)) = BitVec.ofNat 32 a.val := by decide +kernel
theorem rem4_at : ∀ a : Fin 128, rem4 (BitVec.ofNat 32 a.val) = BitVec.ofNat 32 (a.val % 4) := by decide +kernel
theorem quot_eq (i : Fin 8192) : quot (BitVec.ofNat 32 i.val) = BitVec.ofNat 32 (i.val / 64) := by
  have h := quot_at ⟨i.val / 64, by omega⟩ ⟨i.val % 64, by omega⟩
  rwa [show i.val / 64 * 64 + i.val % 64 = i.val by omega] at h

theorem v8_at (i : Fin 8192) : val_main_v8 (F := Ideal) (ix1 i) = BitVec.ofNat 32 (i.val / 64) := by
  rw [← quot_eq]
  pointwise [val_main_v8, val_main_call0_v11, val_main_call0_v13, val_main_call0_v2, val_main_call0_v12, val_main_call0_c_0, val_main_call0_v6,
    val_main_call0_v10, val_main_call0_v9, val_main_call0_c, val_main_call0_v8, val_main_call0_v7, val_main_call0_v0, val_main_call0_v5, val_main_call0_v4,
    val_main_call0_v3, val_main_call0_v1, val_main_v7, val_main_c, id, quot]
theorem v11_at (i : Fin 8192) : val_main_v11 (F := Ideal) (ix1 i) = BitVec.ofNat 32 (i.val / 64) := v8_at i

theorem v17_at (i : Fin 8192) : val_main_v17 (F := Ideal) (ix2 i 0) = BitVec.ofNat 32 (i.val / 64 % 4) := by
  have h := rem4_at ⟨i.val / 64, by omega⟩
  rw [← h, ← v8_at i]
  pointwise [val_main_v17, val_main_call3_v12, val_main_call3_v14, val_main_call3_v4, val_main_call3_v13, val_main_call3_v2, val_main_call3_v11,
    val_main_call3_v6, val_main_call3_v8, val_main_call3_v10, val_main_call3_v9, val_main_call3_c_3, val_main_call3_v7, val_main_call3_c_2, val_main_call3_v3,
    val_main_call3_v1, val_main_call3_v0, val_main_call3_c, val_main_call3_c_0, val_main_call3_c_1, val_main_call3_v5, val_main_c_2, val_main_v9, id, rem4]
theorem v16_at (i : Fin 8192) : val_main_v16 (F := Ideal) (ix2 0 i) = BitVec.ofNat 32 (i.val / 64 % 4) := by
  have h := rem4_at ⟨i.val / 64, by omega⟩
  rw [← h, ← v11_at i]
  pointwise [val_main_v16, val_main_call2_v12, val_main_call2_v14, val_main_call2_v4, val_main_call2_v13, val_main_call2_v2, val_main_call2_v11,
    val_main_call2_v6, val_main_call2_v8, val_main_call2_v10, val_main_call2_v9, val_main_call2_c_3, val_main_call2_v7, val_main_call2_c_2, val_main_call2_v3,
    val_main_call2_v1, val_main_call2_v0, val_main_call2_c, val_main_call2_c_0, val_main_call2_c_1, val_main_call2_v5, val_main_c_1, val_main_v12, id, rem4]

theorem cmpi_eq_nat (a b : ℕ) (ha : a < 2 ^ 32) (hb : b < 2 ^ 32) : IntOp.cmpi CmpIPredicate.eq (BitVec.ofNat 32 a) (BitVec.ofNat 32 b) = if a = b then 1#1 else 0#1 := by
  by_cases h : a = b
  · subst h; rw [if_pos rfl]; simp [IntOp.cmpi]
  · rw [if_neg h]
    have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    show BitVec.ofBool (BitVec.ofNat 32 a == BitVec.ofNat 32 b) = 0#1
    rw [beq_eq_false_iff_ne.mpr this]; rfl

/-- A query sees the keys whose block of 64 has its own block's remainder by 4. -/
theorem mask_at (i j : Fin 8192) : val_main_v21 (F := Ideal) (ix2 i j) = if j.val / 64 % 4 = i.val / 64 % 4 then 1#1 else 0#1 := by
  have e : val_main_v21 (F := Ideal) (ix2 i j) = IntOp.ori (IntOp.cmpi CmpIPredicate.eq (val_main_v8 (F := Ideal) (ix1 i)) (val_main_v11 (F := Ideal) (ix1 j)))
      (IntOp.cmpi CmpIPredicate.eq (val_main_v16 (F := Ideal) (ix2 0 j)) (val_main_v17 (F := Ideal) (ix2 i 0))) := by
    pointwise [val_main_v21, val_main_v15, val_main_v13, val_main_v14, val_main_v9, val_main_v12, val_main_v20, val_main_v18, val_main_v19]
  rw [e, v8_at, v11_at, v16_at, v17_at, cmpi_eq_nat _ _ (by omega) (by omega), cmpi_eq_nat _ _ (by omega) (by omega)]
  by_cases h : j.val / 64 % 4 = i.val / 64 % 4
  · rw [if_pos h]; split <;> rfl
  · rw [if_neg h, if_neg (by omega)]; rfl

theorem fold_ori_one {ι : Type} (s : Finset ι) (f : ι → BitVec 1) (b : BitVec 1) (i : ι) (hi : i ∈ s) (h : f i = 1#1) : s.fold IntOp.ori b f = 1#1 := by
  classical
  rw [← Finset.insert_erase hi, Finset.fold_insert (Finset.notMem_erase i s), h]
  generalize (s.erase i).fold IntOp.ori b f = y
  revert y; decide

/-- Every query sees a key: its own. -/
theorem kept_at (i : Fin 8192) : val_main_v32 (F := Ideal) (ix1 i) = 1#1 := by
  unfold val_main_v32
  rw [Host.reduce_eq_fold_single IntOp.ori _ _ reducesTo_S8192x8192_S8192_d1 (by decide) h_S_]
  refine fold_ori_one _ _ _ i (Finset.mem_univ _) ?_
  have e : ((by decide : S8192x8192.Reduces [1] S8192).lift (ix1 i) i : S8192x8192.Idx) = ix2 i i := by
    funext a; fin_cases a <;> rfl
  show val_main_v21 _ = _
  rw [e, mask_at, if_pos rfl]

/-! ## The weights and the result -/

section Args

variable (x0 : (⟨S2x8192x512, .bf16⟩ : BufTy).Contents (Elt Ideal)) (x1 : (⟨S512x256, .bf16⟩ : BufTy).Contents (Elt Ideal))
  (x2 x3 : (⟨S2x8192x4x64, .bf16⟩ : BufTy).Contents (Elt Ideal)) (x4 : (⟨S256x512, .bf16⟩ : BufTy).Contents (Elt Ideal))

/-- The score of key j for query i. -/
def scoreR (b : Fin 2) (h : Fin 4) (i j : Fin 8192) : EReal :=
  (∑ d : Fin 64, (∑ y : Fin 512, x0 (ix3 b i y) * x1 (ix2 y ⟨h.val * 64 + d.val, by omega⟩)) * x2 (ix4 b j h d)) * Ideal.ofBits FTy.f32 1040187392#32
/-- The same, minus infinity where the query does not see the key. -/
def maskedR (b : Fin 2) (h : Fin 4) (i j : Fin 8192) : EReal := if j.val / 64 % 4 = i.val / 64 % 4 then scoreR x0 x1 x2 b h i j else ⊥

theorem v26_at (b : Fin 2) (h : Fin 4) (i j : Fin 8192) : val_main_v26 (F := Ideal) x0 x1 x2 (ix4 b h i j) = maskedR x0 x1 x2 b h i j := by
  have e : val_main_v26 (F := Ideal) x0 x1 x2 (ix4 b h i j) = Scalar.select (val_main_v21 (F := Ideal) (ix2 i j)) (scoreR x0 x1 x2 b h i j) (Ideal.ofBits FTy.f32 4286578688#32) := by
    unfold scoreR
    pointwise [val_main_v26, val_main_call4_v1, val_main_v25, val_main_v24, val_main_v22, val_main_v23, val_main_cst, val_main_call4_v2, val_main_call4_v0,
      val_main_cst_3, val_main_v6, val_main_v5, val_main_v0, val_main_v1, val_main_v2, id]
  rw [e, mask_at, show Ideal.ofBits FTy.f32 4286578688#32 = ⊥ by simp [Ideal.ofBits, Ideal.ieee]]
  unfold maskedR
  split <;> rfl

/-- The largest score of a row. -/
theorem v27_at (b : Fin 2) (h : Fin 4) (i : Fin 8192) : val_main_v27 (F := Ideal) x0 x1 x2 (ix3 b h i) = top (maskedR x0 x1 x2 b h i) := by
  unfold val_main_v27
  rw [Host.reduce_eq_fold_single FloatOps.maximumf _ _ reducesTo_S2x4x8192x8192_S2x4x8192_d3 (by decide) h_S_]
  unfold top
  rw [show val_main_cst_4 (F := Ideal) (Shape.Idx.first h_S_) = ⊥ from show Ideal.ofBits FTy.f32 4286578688#32 = ⊥ by simp [Ideal.ofBits, Ideal.ieee]]
  have e (j : Fin 8192) : ((by decide : S2x4x8192x8192.Reduces [3] S2x4x8192).lift (ix3 b h i) j : S2x4x8192x8192.Idx) = ix4 b h i j := by
    funext a; fin_cases a <;> rfl
  refine congrArg (fun g => Finset.fold max (⊥ : EReal) g (Finset.univ : Finset (Fin 8192))) (funext fun j => ?_)
  exact (congrArg (val_main_v26 (F := Ideal) x0 x1 x2) (e j)).trans (v26_at x0 x1 x2 b h i j)

theorem v31_at (b : Fin 2) (h : Fin 4) (i j : Fin 8192) :
    val_main_v31 (F := Ideal) x0 x1 x2 (ix4 b h i j) = Ideal.exp (maskedR x0 x1 x2 b h i j - top (maskedR x0 x1 x2 b h i)) := by
  rw [← v26_at, ← v27_at]
  pointwise [val_main_v31, val_main_v30, val_main_v29, val_main_v28]

theorem v34_at (b : Fin 2) (h : Fin 4) (i : Fin 8192) : val_main_v34 (F := Ideal) x0 x1 x2 (ix3 b h i) = mass (maskedR x0 x1 x2 b h i) := by
  rw [val_main_v34_apply, show val_main_cst_6 (F := Ideal) (Shape.Idx.first h_S_) = 0 from show Ideal.ofBits FTy.f32 0#32 = 0 by simp [Ideal.ofBits, Ideal.ieee], zero_add]
  unfold mass
  refine Finset.sum_congr rfl fun j _ => ?_
  have e : idx_main_v34 (ix3 b h i) j = ix4 b h i j := by
    funext a; fin_cases a <;> rfl
  rw [e, v31_at]

theorem v37_at (b : Fin 2) (h : Fin 4) (i j : Fin 8192) : val_main_v37 (F := Ideal) x0 x1 x2 (ix4 b h i j) = mass (maskedR x0 x1 x2 b h i) := by
  have e1 : idx_main_v33 (idx_main_call5_v1 (idx_main_v37 (ix4 b h i j))) = ix1 i := by
    funext a; fin_cases a; rfl
  have e2 : idx_main_v35 (idx_main_v37 (ix4 b h i j)) = ix3 b h i := by
    funext a; fin_cases a <;> rfl
  rw [val_main_v37_apply, val_main_v36_apply, val_main_call5_v1_apply, val_main_v33_apply, e1, kept_at, ValueIdx.select_one, val_main_v35_apply, e2, v34_at]
theorem keptR_at (b : Fin 2) (h : Fin 4) (i j : Fin 8192) : val_main_call6_v1 (F := Ideal) (ix4 b h i j) = 1#1 := by
  have e1 : idx_main_v39 (idx_main_call6_v1 (ix4 b h i j)) = ix1 i := by
    funext a; fin_cases a; rfl
  rw [val_main_call6_v1_apply, val_main_v39_apply, e1, kept_at]

theorem v40_at (b : Fin 2) (h : Fin 4) (i j : Fin 8192) :
    val_main_v40 (F := Ideal) x0 x1 x2 (ix4 b h i j)
      = Ideal.div (Ideal.exp (maskedR x0 x1 x2 b h i j - top (maskedR x0 x1 x2 b h i))) (mass (maskedR x0 x1 x2 b h i)) := by
  rw [val_main_v40_apply, keptR_at, ValueIdx.select_one, val_main_v38_apply, v37_at, v31_at]
  rfl

/-- The reference at an index. -/
theorem ref_at (b : Fin 2) (i : Fin 8192) (e : Fin 512) :
    val_main_v44 (F := Ideal) x0 x1 x2 x3 x4 (ix3 b i e)
      = ∑ y : Fin 256, att (maskedR x0 x1 x2 b ⟨y.val / 64, by omega⟩ i) (fun j => x3 (ix4 b j ⟨y.val / 64, by omega⟩ ⟨y.val % 64, by omega⟩)) * x4 (ix2 y e) := by
  pointwise [val_main_v44, val_main_v43, val_main_v42, val_main_v41, val_main_v3, val_main_v4]
  refine Finset.sum_congr rfl fun y _ => ?_
  unfold att
  refine congrArg (· * x4 (ix2 y e)) (Finset.sum_congr rfl fun j _ => ?_)
  rw [v40_at, mul_comm]

end Args

end Cert.Proof

end
-- ==== Proof.Value.lean ====
/-
  The kernel's result is the reference's: device c holds block c of it.
-/
module

public import proofs.«01_k».proof.Proof.KernelValue
public import proofs.«01_k».proof.Proof.RefValue
public import Idealize.ShloMosaic.Lib.Layout

@[expose] public section

noncomputable section

namespace Cert.Proof

open Idealize.ShloMosaic Idealize.SL.Sem
open Cert.KernelIdeal (nD S2x256x512 S512x256 S2x256x4x64 S256x512)
open Cert.ReferenceIdeal (S2x8192x512 S2x8192x4x64)

set_option maxRecDepth 16384
set_option maxHeartbeats 4000000

/-! ## Every device's block arrives, each once -/

theorem src_surj : ∀ c d : Fin 32, ∃ n : Fin 32, src c n.val = d := by decide +kernel
theorem src_inj (c : Dev nD) : Function.Injective fun n : Fin 32 => src c n.val :=
  Finite.injective_iff_surjective.mpr fun d => src_surj c d

/-- The position, in the whole sequence, of row t of device c. -/
def pos (c : Dev nD) (t : Fin 256) : Fin 8192 := ⟨c.val * 256 + t.val, by have : c.val < 32 := c.isLt; omega⟩
theorem pos_val (c : Dev nD) (t : Fin 256) : (pos c t).val = c.val * 256 + t.val := rfl
theorem pos_all (i : Fin 8192) : ∃ (c : Dev nD) (t : Fin 256), i = pos c t :=
  ⟨(⟨i.val / 256, by omega⟩ : Fin 32), ⟨i.val % 256, by omega⟩, Fin.ext (show i.val = i.val / 256 * 256 + i.val % 256 by omega)⟩

/-- The row, within a device's block, of gathered key x for row t. -/
def keyRow (t : Fin 256) (x : Fin 2048) : Fin 256 := ⟨t.val / 64 * 64 + x.val % 64, by omega⟩
/-- The position of gathered key x for row t of device c. -/
def keyPos (c : Dev nD) (t : Fin 256) (x : Fin 2048) : Fin 8192 := pos (src c (x.val / 64)) (keyRow t x)
theorem keyPos_val (c : Dev nD) (t : Fin 256) (x : Fin 2048) : (keyPos c t x).val = (src c (x.val / 64)).val * 256 + (t.val / 64 * 64 + x.val % 64) := rfl

theorem keyPos_inj (c : Dev nD) (t : Fin 256) : Function.Injective (keyPos c t) := fun x x' h => by
  have hv := congrArg Fin.val h
  rw [keyPos_val, keyPos_val] at hv
  have hs : src c (x.val / 64) = src c (x'.val / 64) := Fin.ext (by omega)
  have hn := congrArg Fin.val (src_inj c (a₁ := (⟨x.val / 64, by omega⟩ : Fin 32)) (a₂ := (⟨x'.val / 64, by omega⟩ : Fin 32)) hs)
  have hn' : x.val / 64 = x'.val / 64 := hn
  rw [hs] at hv
  exact Fin.ext (by omega)

/-- The query at row t of device c sees the gathered keys, -/
theorem keyPos_seen (c : Dev nD) (t : Fin 256) (x : Fin 2048) : (keyPos c t x).val / 64 % 4 = (pos c t).val / 64 % 4 := by
  rw [keyPos_val, pos_val]; omega
/-- and no others. -/
theorem seen_keyPos (c : Dev nD) (t : Fin 256) (j : Fin 8192) (h : j.val / 64 % 4 = (pos c t).val / 64 % 4) : j ∈ Set.range (keyPos c t) := by
  obtain ⟨n, hn⟩ := src_surj c ⟨j.val / 256, by omega⟩
  refine ⟨⟨n.val * 64 + j.val % 64, by omega⟩, Fin.ext ?_⟩
  rw [keyPos_val]
  show (src c ((n.val * 64 + j.val % 64) / 64)).val * 256 + (t.val / 64 * 64 + (n.val * 64 + j.val % 64) % 64) = j.val
  rw [show (n.val * 64 + j.val % 64) / 64 = n.val by omega, hn]
  show j.val / 256 * 256 + (t.val / 64 * 64 + (n.val * 64 + j.val % 64) % 64) = j.val
  rw [pos_val] at h
  omega

/-! ## Blocks at an index -/

section Blocks

variable {α : Type}

theorem block3 (c : Dev nD) (v : S2x8192x512.Idx → α) (hT : Layout.Tiles S2x256x512 S2x8192x512 1 32) (b : Fin 2) (t : Fin 256) (e : Fin 512) :
    Layout.block S2x256x512 S2x8192x512 1 32 c v hT (ix3 b t e) = v (ix3 b (pos c t) e) := by
  rw [Layout.block_apply]
  congr 1
  funext a
  apply Fin.ext
  rw [Layout.Tiles.idx_val]
  fin_cases a <;> rfl

theorem block4 (c : Dev nD) (v : S2x8192x4x64.Idx → α) (hT : Layout.Tiles S2x256x4x64 S2x8192x4x64 1 32) (b : Fin 2) (t : Fin 256) (h : Fin 4) (d : Fin 64) :
    Layout.block S2x256x4x64 S2x8192x4x64 1 32 c v hT (ix4 b t h d) = v (ix4 b (pos c t) h d) := by
  rw [Layout.block_apply]
  congr 1
  funext a
  apply Fin.ext
  rw [Layout.Tiles.idx_val]
  fin_cases a <;> rfl

end Blocks

/-! ## The two results -/

section Same

variable (x0 : S2x8192x512.Idx → EReal) (x1 : S512x256.Idx → EReal) (x2 x3 : S2x8192x4x64.Idx → EReal) (x4 : S256x512.Idx → EReal)
  (J : Dev nD → Ins Ideal)

/-- The devices hold the blocks of the arrays. -/
structure Cut : Prop where
  x : ∀ (c : Dev nD) (b : Fin 2) (t : Fin 256) (e : Fin 512), (J c).x (ix3 b t e) = x0 (ix3 b (pos c t) e)
  wq : ∀ c : Dev nD, (J c).wq = x1
  k : ∀ (c : Dev nD) (b : Fin 2) (t : Fin 256) (h : Fin 4) (d : Fin 64), (J c).k (ix4 b t h d) = x2 (ix4 b (pos c t) h d)
  v : ∀ (c : Dev nD) (b : Fin 2) (t : Fin 256) (h : Fin 4) (d : Fin 64), (J c).v (ix4 b t h d) = x3 (ix4 b (pos c t) h d)
  wo : ∀ c : Dev nD, (J c).wo = x4

/-- Queries, projection and keys are numbers. -/
structure Nums : Prop where
  x : ∀ (c : Dev nD) (i : S2x256x512.Idx), IsNum ((J c).x i)
  wq : ∀ (c : Dev nD) (i : S512x256.Idx), IsNum ((J c).wq i)
  k : ∀ (c : Dev nD) (i : S2x256x4x64.Idx), IsNum ((J c).k i)

variable {x0 x1 x2 x3 x4 J}

theorem score_num (hc : Cut x0 x1 x2 x3 x4 J) (hn : Nums J) (b : Fin 2) (h : Fin 4) (i j : Fin 8192) : IsNum (scoreR x0 x1 x2 b h i j) := by
  obtain ⟨c, t, rfl⟩ := pos_all i
  obtain ⟨c', t', rfl⟩ := pos_all j
  unfold scoreR
  refine (IsNum.sum _ _ fun d => (IsNum.sum _ _ fun y => ?_).mul ?_).mul scale_num
  · rw [← hc.x, ← hc.wq c]
    exact (hn.x c _).mul (hn.wq c _)
  · rw [← hc.k]
    exact hn.k c' _

theorem ctx_eq (hc : Cut x0 x1 x2 x3 x4 J) (hn : Nums J) (c : Dev nD) (b : Fin 2) (h : Fin 4) (t : Fin 256) (d : Fin 64) :
    ctxRow J c b h t d = att (maskedR x0 x1 x2 b h (pos c t)) fun j => x3 (ix4 b j h d) := by
  have hseen (x : Fin 2048) : maskedR x0 x1 x2 b h (pos c t) (keyPos c t x) = scoreR x0 x1 x2 b h (pos c t) (keyPos c t x) := if_pos (keyPos_seen c t x)
  rw [att_masked (keyPos c t) (maskedR x0 x1 x2 b h (pos c t)) (fun j => x3 (ix4 b j h d)) (keyPos_inj c t)
    (fun j hj => if_neg fun e => hj (seen_keyPos c t j e))
    (fun x => by rw [hseen]; exact score_num hc hn b h _ _)]
  unfold ctxRow
  congr 1
  · funext x
    show _ = maskedR x0 x1 x2 b h (pos c t) (keyPos c t x)
    rw [hseen]
    unfold scoreR qRow
    refine congrArg (· * Ideal.ofBits FTy.f32 1040187392#32) (Finset.sum_congr rfl fun d' _ => ?_)
    rw [hc.k, hc.wq]
    refine congrArg₂ (· * ·) (Finset.sum_congr rfl fun y _ => ?_) rfl
    rw [hc.x]
  · funext x
    exact hc.v _ b _ h d

/-- Device c's result at an index is the reference's at the row's position. -/
theorem out_eq (hc : Cut x0 x1 x2 x3 x4 J) (hn : Nums J) (c : Dev nD) (b : Fin 2) (t : Fin 256) (e : Fin 512) :
    outAt J c (ix3 b t e) = Cert.ReferenceIdeal.Read.val_main_v44 (F := Ideal) x0 x1 x2 x3 x4 (ix3 b (pos c t) e) := by
  rw [out_at, ref_at]
  refine Finset.sum_congr rfl fun y _ => ?_
  rw [ctx_eq hc hn, hc.wo]

end Same

end Cert.Proof

end
-- ==== Proof.Agree.lean ====
/-
  The agreement of the two runs, and the frames under the precondition.
-/
module

public import proofs.«01_k».proof.Proof.Frames
public import proofs.«01_k».proof.Proof.Value

@[expose] public section

noncomputable section

namespace Cert.Proof

open Idealize.ShloMosaic Idealize.SL.Sem

set_option maxRecDepth 16384
set_option maxHeartbeats 4000000

/-! ## The precondition -/

theorem pre_kernel_facts : Cert.Pre_finite_KernelIdeal.Facts where
  bitsLt_bf16_f32 := by decide
  bcast_S_S2x256x512 := by decide
  bcast_S_S512x256 := by decide
  bcast_S_S2x256x4x64 := by decide

theorem pre_reference_facts : Cert.Pre_finite_ReferenceIdeal.Facts where
  bitsLt_bf16_f32 := by decide
  bcast_S_S2x8192x512 := by decide
  bcast_S_S512x256 := by decide
  bcast_S_S2x8192x4x64 := by decide

/-- A value whose size is below infinity is a number. -/
theorem num_of_cmp {a : EReal} (h : Ideal.cmp .olt (max a (-a)) (Ideal.ofBits FTy.f32 2139095040#32) = 1#1) : IsNum a := by
  rw [show Ideal.ofBits FTy.f32 2139095040#32 = ⊤ by simp [Ideal.ofBits, Ideal.ieee]] at h
  refine isNum_of_abs_lt_top ?_
  by_contra hn
  have : Ideal.cmp .olt (max a (-a)) ⊤ = 0#1 := by
    show BitVec.ofBool (decide (max a (-a) < ⊤)) = 0#1
    rw [decide_eq_false hn]; rfl
  rw [this] at h
  exact absurd h (by decide)

theorem nums_of_pre (m : (ℓ : Loc Cert.KernelIdeal.nD Cert.KernelIdeal.τ Cert.KernelIdeal.sig) → Buf (Elt Ideal) ℓ)
    (h : Cert.Pre_KernelIdeal_finite_KernelIdeal (hPre_finite_KernelIdeal := pre_kernel_facts) m) : Nums (ins (F := Ideal) m) where
  x := fun c i => num_of_cmp (congrFun (h c).1 i)
  wq := fun c i => num_of_cmp (congrFun (h c).2.1 i)
  k := fun c i => num_of_cmp (congrFun (h c).2.2 i)

theorem frame_ideal_pre : Cert.quiescent_KernelIdeal_pre_finite_KernelIdeal (hPre_finite_KernelIdeal := pre_kernel_facts) := fun m ρ _ =>
  frame_ideal m ρ trivial
theorem frame_reference_pre : Cert.quiescent_ReferenceIdeal_pre_finite_ReferenceIdeal (hPre_finite_ReferenceIdeal := pre_reference_facts) := fun m ρ _ =>
  frame_reference m ρ trivial

/-! ## The agreement -/

/-- The kernel's devices end with the blocks of the reference's result. -/
theorem agree : Cert.algebraic_KernelIdeal_ReferenceIdeal_pre_finite_KernelIdeal (hPre_finite_KernelIdeal := pre_kernel_facts) := fun m ρ m' ρ' hp hm => by
  have hn := nums_of_pre m hp
  have hc : Cut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (ins (F := Ideal) m) :=
    { x := fun c b t e => (congrFun (hm c).1 (ix3 b t e)).trans (block3 c _ _ b t e)
      wq := fun c => (hm c).2.1
      k := fun c b t h d => (congrFun (hm c).2.2.1 (ix4 b t h d)).trans (block4 c _ _ b t h d)
      v := fun c b t h d => (congrFun (hm c).2.2.2.1 (ix4 b t h d)).trans (block4 c _ _ b t h d)
      wo := fun c => (hm c).2.2.2.2 }
  refine ⟨Cert.ReferenceIdeal.Value.res_main_v44 m' 0, ?_, ?_⟩
  · refine (θ_run Cert.KernelIdeal.defs _ _).mono (fun r h c => ⟨?_, (h.1 c).1.2⟩) (run_main (F := Ideal) m ρ)
    refine ((h.1 c).1.1).trans ?_
    rw [Cert.ReferenceIdeal.Read.val_main_v44_eq]
    funext i
    rw [eq_ix3 i]
    exact (out_eq hc hn c (i 0) (i 1) (i 2)).trans (block3 c _ _ (i 0) (i 1) (i 2)).symm
  · exact (θ_run Cert.ReferenceIdeal.defs _ _).mono (fun r h => h 0) (Cert.ReferenceIdeal.Value.run (F := Ideal) m' ρ')

end Cert.Proof

end
-- ==== Proof.lean ====
/-
  The claim: the kernel and the reference run to their ends, and the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Agree

@[expose] public section

noncomputable section

namespace Cert.Proof

/-- Every claim of the problem. -/
theorem claim : Cert.Claim :=
  ⟨Cert.Kernel.Gen.facts, Cert.KernelIdeal.Gen.facts, Cert.ReferenceIdeal.Gen.facts, pre_kernel_facts, pre_reference_facts,
    frame_kernel, frame_ideal, frame_ideal_pre, frame_reference, frame_reference_pre, trivial, agree⟩

end Cert.Proof

end
